-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S256x1024 : Shape := ⟨2, ![256, 1024]⟩
abbrev S3x256x1024 : Shape := ⟨3, ![3, 256, 1024]⟩
abbrev S_ : Shape := ⟨0, ![]⟩
abbrev S3 : Shape := ⟨1, ![3]⟩
abbrev S4 : Shape := ⟨1, ![4]⟩
abbrev S2 : Shape := ⟨1, ![2]⟩
abbrev S1 : Shape := ⟨1, ![1]⟩
abbrev S1x256x1024 : Shape := ⟨3, ![1, 256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .bf16⟩
  | .local _ .vmem, ⟨1, _⟩ => ⟨S1024x1024, .f32⟩
  | .local _ .vmem, ⟨2, _⟩ => ⟨S1024x1024, .bf16⟩
  | .local _ .vmem, ⟨3, _⟩ => ⟨S256x1024, .bf16⟩
  | .local _ .vmem, ⟨4, _⟩ => ⟨S3x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v56 : BitVec 32 := Scalar.muli v10 c1024_i32
  let c0_i32_31 : BitVec 32 := 0#32
  ![v56.toNat, 0]
def k0_dev1 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v59 : BitVec 32 := Scalar.muli v2 c8_i32_33
  let v60 : BitVec 32 := Scalar.addi c0_i32_34 v59
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v61 : BitVec 32 := Scalar.muli v5 c4_i32_35
  let v62 : BitVec 32 := Scalar.addi v60 v61
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v21 : BitVec 32 := Scalar.addi v8 c1_i32_10
  let c4_i32_11 : BitVec 32 := 4#32
  let c0_i32 : BitVec 32 := 0#32
  let v22 : BitVec 1 := Scalar.cmpi .eq c4_i32_11 c0_i32
  let c1_i32_12 : BitVec 32 := 1#32
  let v23 : BitVec 32 := Scalar.select v22 c1_i32_12 c4_i32_11
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_36 : BitVec 32 := 1#32
  let v63 : BitVec 32 := Scalar.muli v31 c1_i32_36
  let v64 : BitVec 32 := Scalar.addi v62 v63
  v64.toNat
def k0_dev2 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v65 : BitVec 32 := Scalar.muli v2 c8_i32_38
  let v66 : BitVec 32 := Scalar.addi c0_i32_39 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_40 : BitVec 32 := 4#32
  let v67 : BitVec 32 := Scalar.muli v5 c4_i32_40
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v32 : BitVec 32 := Scalar.addi v8 c2_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_41 : BitVec 32 := 1#32
  let v69 : BitVec 32 := Scalar.muli v42 c1_i32_41
  let v70 : BitVec 32 := Scalar.addi v68 v69
  v70.toNat
def k0_dev3 (d0 : Dev nD) : Nat :=
  let c0_i32_44 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_43 : BitVec 32 := 8#32
  let v71 : BitVec 32 := Scalar.muli v2 c8_i32_43
  let v72 : BitVec 32 := Scalar.addi c0_i32_44 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_45 : BitVec 32 := 4#32
  let v73 : BitVec 32 := Scalar.muli v5 c4_i32_45
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v43 : BitVec 32 := Scalar.addi v8 c3_i32
  let c4_i32_23 : BitVec 32 := 4#32
  let c0_i32_24 : BitVec 32 := 0#32
  let v44 : BitVec 1 := Scalar.cmpi .eq c4_i32_23 c0_i32_24
  let c1_i32_25 : BitVec 32 := 1#32
  let v45 : BitVec 32 := Scalar.select v44 c1_i32_25 c4_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c1_i32_46 : BitVec 32 := 1#32
  let v75 : BitVec 32 := Scalar.muli v53 c1_i32_46
  let v76 : BitVec 32 := Scalar.addi v74 v75
  v76.toNat
def k0_dev4 (d0 : Dev nD) : Nat :=
  let c0_i32_49 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_48 : BitVec 32 := 8#32
  let v77 : BitVec 32 := Scalar.muli v54 c8_i32_48
  let v78 : BitVec 32 := Scalar.addi c0_i32_49 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_50 : BitVec 32 := 4#32
  let v79 : BitVec 32 := Scalar.muli v5 c4_i32_50
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_51 : BitVec 32 := 1#32
  let v81 : BitVec 32 := Scalar.muli v8 c1_i32_51
  let v82 : BitVec 32 := Scalar.addi v80 v81
  v82.toNat
def k0_dev5 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v83 : BitVec 32 := Scalar.muli v2 c8_i32_53
  let v84 : BitVec 32 := Scalar.addi c0_i32_54 v83
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_55 : BitVec 32 := 4#32
  let v85 : BitVec 32 := Scalar.muli v55 c4_i32_55
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v87 : BitVec 32 := Scalar.muli v8 c1_i32_56
  let v88 : BitVec 32 := Scalar.addi v86 v87
  v88.toNat
def k0_off2 (d0 : Dev nD) (c1_i32_61 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v95 : BitVec 32 := Scalar.addi v8 c1_i32_61
  let c4_i32_62 : BitVec 32 := 4#32
  let c0_i32_63 : BitVec 32 := 0#32
  let v96 : BitVec 1 := Scalar.cmpi .eq c4_i32_62 c0_i32_63
  let c1_i32_64 : BitVec 32 := 1#32
  let v97 : BitVec 32 := Scalar.select v96 c1_i32_64 c4_i32_62
  let v98 : BitVec 32 := Scalar.remsi v95 v97
  let c0_i32_66 : BitVec 32 := 0#32
  let v100 : BitVec 1 := Scalar.cmpi .slt v98 c0_i32_66
  let c0_i32_67 : BitVec 32 := 0#32
  let v101 : BitVec 1 := Scalar.cmpi .slt v97 c0_i32_67
  let v102 : BitVec 1 := Scalar.xori v100 v101
  let c0_i32_65 : BitVec 32 := 0#32
  let v99 : BitVec 1 := Scalar.cmpi .ne v98 c0_i32_65
  let v103 : BitVec 1 := Scalar.andi v102 v99
  let v104 : BitVec 32 := Scalar.addi v98 v97
  let v105 : BitVec 32 := Scalar.select v103 v104 v98
  let c256_i32 : BitVec 32 := 256#32
  let v106 : BitVec 32 := Scalar.muli v105 c256_i32
  let c0_i32_77 : BitVec 32 := 0#32
  ![v106.toNat, 0]
def k0_dev6 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v107 : BitVec 32 := Scalar.muli v2 c8_i32_71
  let v108 : BitVec 32 := Scalar.addi c0_i32_72 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_73 : BitVec 32 := 4#32
  let v109 : BitVec 32 := Scalar.muli v5 c4_i32_73
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v95 : BitVec 32 := Scalar.addi v8 c1_i32_61
  let c4_i32_62 : BitVec 32 := 4#32
  let c0_i32_63 : BitVec 32 := 0#32
  let v96 : BitVec 1 := Scalar.cmpi .eq c4_i32_62 c0_i32_63
  let c1_i32_64 : BitVec 32 := 1#32
  let v97 : BitVec 32 := Scalar.select v96 c1_i32_64 c4_i32_62
  let v98 : BitVec 32 := Scalar.remsi v95 v97
  let c0_i32_66 : BitVec 32 := 0#32
  let v100 : BitVec 1 := Scalar.cmpi .slt v98 c0_i32_66
  let c0_i32_67 : BitVec 32 := 0#32
  let v101 : BitVec 1 := Scalar.cmpi .slt v97 c0_i32_67
  let v102 : BitVec 1 := Scalar.xori v100 v101
  let c0_i32_65 : BitVec 32 := 0#32
  let v99 : BitVec 1 := Scalar.cmpi .ne v98 c0_i32_65
  let v103 : BitVec 1 := Scalar.andi v102 v99
  let v104 : BitVec 32 := Scalar.addi v98 v97
  let v105 : BitVec 32 := Scalar.select v103 v104 v98
  let c1_i32_74 : BitVec 32 := 1#32
  let v111 : BitVec 32 := Scalar.muli v105 c1_i32_74
  let v112 : BitVec 32 := Scalar.addi v110 v111
  v112.toNat
def k0_dev7 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v132 : BitVec 32 := Scalar.muli v2 c8_i32_89
  let v133 : BitVec 32 := Scalar.addi c0_i32_90 v132
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v134 : BitVec 32 := Scalar.muli v5 c4_i32_91
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_78 : BitVec 32 := 2#32
  let v120 : BitVec 32 := Scalar.addi v8 c2_i32_78
  let c4_i32_79 : BitVec 32 := 4#32
  let c0_i32_80 : BitVec 32 := 0#32
  let v121 : BitVec 1 := Scalar.cmpi .eq c4_i32_79 c0_i32_80
  let c1_i32_81 : BitVec 32 := 1#32
  let v122 : BitVec 32 := Scalar.select v121 c1_i32_81 c4_i32_79
  let v123 : BitVec 32 := Scalar.remsi v120 v122
  let c0_i32_83 : BitVec 32 := 0#32
  let v125 : BitVec 1 := Scalar.cmpi .slt v123 c0_i32_83
  let c0_i32_84 : BitVec 32 := 0#32
  let v126 : BitVec 1 := Scalar.cmpi .slt v122 c0_i32_84
  let v127 : BitVec 1 := Scalar.xori v125 v126
  let c0_i32_82 : BitVec 32 := 0#32
  let v124 : BitVec 1 := Scalar.cmpi .ne v123 c0_i32_82
  let v128 : BitVec 1 := Scalar.andi v127 v124
  let v129 : BitVec 32 := Scalar.addi v123 v122
  let v130 : BitVec 32 := Scalar.select v128 v129 v123
  let c1_i32_92 : BitVec 32 := 1#32
  let v136 : BitVec 32 := Scalar.muli v130 c1_i32_92
  let v137 : BitVec 32 := Scalar.addi v135 v136
  v137.toNat
def k0_dev8 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v157 : BitVec 32 := Scalar.muli v2 c8_i32_107
  let v158 : BitVec 32 := Scalar.addi c0_i32_108 v157
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v159 : BitVec 32 := Scalar.muli v5 c4_i32_109
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_96 : BitVec 32 := 3#32
  let v145 : BitVec 32 := Scalar.addi v8 c3_i32_96
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c1_i32_110 : BitVec 32 := 1#32
  let v161 : BitVec 32 := Scalar.muli v155 c1_i32_110
  let v162 : BitVec 32 := Scalar.addi v160 v161
  v162.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_144 : BitVec 32 := 256#32
  let v203 : BitVec 32 := Scalar.muli v8 c256_i32_144
  let v204 : Index := Scalar.indexCast v203
  let c0_145 : Index := 0#32
  ![v204.toNat, 0]
def k0_off4 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_155 : BitVec 32 := 1024#32
  let v222 : BitVec 32 := Scalar.muli v10 c1024_i32_155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_156 : BitVec 32 := 256#32
  let v223 : BitVec 32 := Scalar.muli v8 c256_i32_156
  let v224 : BitVec 32 := Scalar.addi v222 v223
  let v226 : Index := Scalar.indexCast v224
  let c0_159 : Index := 0#32
  ![v226.toNat, 0]
def k0_off5 (d0 : Dev nD) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_155 : BitVec 32 := 1024#32
  let v222 : BitVec 32 := Scalar.muli v10 c1024_i32_155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_156 : BitVec 32 := 256#32
  let v223 : BitVec 32 := Scalar.muli v8 c256_i32_156
  let v224 : BitVec 32 := Scalar.addi v222 v223
  let c0_i32_173 : BitVec 32 := 0#32
  ![v224.toNat, 0]
def k0_dev9 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v239 : BitVec 32 := Scalar.muli v2 c8_i32_169
  let v240 : BitVec 32 := Scalar.addi c0_i32_170 v239
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v241 : BitVec 32 := Scalar.muli v5 c4_i32_171
  let v242 : BitVec 32 := Scalar.addi v240 v241
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v228 : BitVec 32 := Scalar.addi v8 c1_i32_160
  let c4_i32_161 : BitVec 32 := 4#32
  let c0_i32_162 : BitVec 32 := 0#32
  let v229 : BitVec 1 := Scalar.cmpi .eq c4_i32_161 c0_i32_162
  let c1_i32_163 : BitVec 32 := 1#32
  let v230 : BitVec 32 := Scalar.select v229 c1_i32_163 c4_i32_161
  let v231 : BitVec 32 := Scalar.remsi v228 v230
  let c0_i32_165 : BitVec 32 := 0#32
  let v233 : BitVec 1 := Scalar.cmpi .slt v231 c0_i32_165
  let c0_i32_166 : BitVec 32 := 0#32
  let v234 : BitVec 1 := Scalar.cmpi .slt v230 c0_i32_166
  let v235 : BitVec 1 := Scalar.xori v233 v234
  let c0_i32_164 : BitVec 32 := 0#32
  let v232 : BitVec 1 := Scalar.cmpi .ne v231 c0_i32_164
  let v236 : BitVec 1 := Scalar.andi v235 v232
  let v237 : BitVec 32 := Scalar.addi v231 v230
  let v238 : BitVec 32 := Scalar.select v236 v237 v231
  let c1_i32_172 : BitVec 32 := 1#32
  let v243 : BitVec 32 := Scalar.muli v238 c1_i32_172
  let v244 : BitVec 32 := Scalar.addi v242 v243
  v244.toNat
def k0_dev10 (d0 : Dev nD) : Nat :=
  let c0_i32_184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_183 : BitVec 32 := 8#32
  let v261 : BitVec 32 := Scalar.muli v2 c8_i32_183
  let v262 : BitVec 32 := Scalar.addi c0_i32_184 v261
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_185 : BitVec 32 := 4#32
  let v263 : BitVec 32 := Scalar.muli v5 c4_i32_185
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_174 : BitVec 32 := 2#32
  let v250 : BitVec 32 := Scalar.addi v8 c2_i32_174
  let c4_i32_175 : BitVec 32 := 4#32
  let c0_i32_176 : BitVec 32 := 0#32
  let v251 : BitVec 1 := Scalar.cmpi .eq c4_i32_175 c0_i32_176
  let c1_i32_177 : BitVec 32 := 1#32
  let v252 : BitVec 32 := Scalar.select v251 c1_i32_177 c4_i32_175
  let v253 : BitVec 32 := Scalar.remsi v250 v252
  let c0_i32_179 : BitVec 32 := 0#32
  let v255 : BitVec 1 := Scalar.cmpi .slt v253 c0_i32_179
  let c0_i32_180 : BitVec 32 := 0#32
  let v256 : BitVec 1 := Scalar.cmpi .slt v252 c0_i32_180
  let v257 : BitVec 1 := Scalar.xori v255 v256
  let c0_i32_178 : BitVec 32 := 0#32
  let v254 : BitVec 1 := Scalar.cmpi .ne v253 c0_i32_178
  let v258 : BitVec 1 := Scalar.andi v257 v254
  let v259 : BitVec 32 := Scalar.addi v253 v252
  let v260 : BitVec 32 := Scalar.select v258 v259 v253
  let c1_i32_186 : BitVec 32 := 1#32
  let v265 : BitVec 32 := Scalar.muli v260 c1_i32_186
  let v266 : BitVec 32 := Scalar.addi v264 v265
  v266.toNat
def k0_dev11 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197 : BitVec 32 := 8#32
  let v283 : BitVec 32 := Scalar.muli v2 c8_i32_197
  let v284 : BitVec 32 := Scalar.addi c0_i32_198 v283
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_199 : BitVec 32 := 4#32
  let v285 : BitVec 32 := Scalar.muli v5 c4_i32_199
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_188 : BitVec 32 := 3#32
  let v272 : BitVec 32 := Scalar.addi v8 c3_i32_188
  let c4_i32_189 : BitVec 32 := 4#32
  let c0_i32_190 : BitVec 32 := 0#32
  let v273 : BitVec 1 := Scalar.cmpi .eq c4_i32_189 c0_i32_190
  let c1_i32_191 : BitVec 32 := 1#32
  let v274 : BitVec 32 := Scalar.select v273 c1_i32_191 c4_i32_189
  let v275 : BitVec 32 := Scalar.remsi v272 v274
  let c0_i32_193 : BitVec 32 := 0#32
  let v277 : BitVec 1 := Scalar.cmpi .slt v275 c0_i32_193
  let c0_i32_194 : BitVec 32 := 0#32
  let v278 : BitVec 1 := Scalar.cmpi .slt v274 c0_i32_194
  let v279 : BitVec 1 := Scalar.xori v277 v278
  let c0_i32_192 : BitVec 32 := 0#32
  let v276 : BitVec 1 := Scalar.cmpi .ne v275 c0_i32_192
  let v280 : BitVec 1 := Scalar.andi v279 v276
  let v281 : BitVec 32 := Scalar.addi v275 v274
  let v282 : BitVec 32 := Scalar.select v280 v281 v275
  let c1_i32_200 : BitVec 32 := 1#32
  let v287 : BitVec 32 := Scalar.muli v282 c1_i32_200
  let v288 : BitVec 32 := Scalar.addi v286 v287
  v288.toNat
def k0_dev12 (d0 : Dev nD) : Nat :=
  let c0_i32_205 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_204 : BitVec 32 := 8#32
  let v294 : BitVec 32 := Scalar.muli v54 c8_i32_204
  let v295 : BitVec 32 := Scalar.addi c0_i32_205 v294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v296 : BitVec 32 := Scalar.muli v5 c4_i32_206
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_207 : BitVec 32 := 1#32
  let v298 : BitVec 32 := Scalar.muli v8 c1_i32_207
  let v299 : BitVec 32 := Scalar.addi v297 v298
  v299.toNat
def k0_dev13 (d0 : Dev nD) : Nat :=
  let c0_i32_213 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_212 : BitVec 32 := 8#32
  let v306 : BitVec 32 := Scalar.muli v2 c8_i32_212
  let v307 : BitVec 32 := Scalar.addi c0_i32_213 v306
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_214 : BitVec 32 := 4#32
  let v308 : BitVec 32 := Scalar.muli v55 c4_i32_214
  let v309 : BitVec 32 := Scalar.addi v307 v308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v310 : BitVec 32 := Scalar.muli v8 c1_i32_215
  let v311 : BitVec 32 := Scalar.addi v309 v310
  v311.toNat
def k0_off6 (d0 : Dev nD) (c1_i32_218 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_225 : BitVec 32 := 1024#32
  let v329 : BitVec 32 := Scalar.muli v10 c1024_i32_225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v318 : BitVec 32 := Scalar.subi v8 c1_i32_218
  let c4_i32_219 : BitVec 32 := 4#32
  let c0_i32_220 : BitVec 32 := 0#32
  let v319 : BitVec 1 := Scalar.cmpi .eq c4_i32_219 c0_i32_220
  let c1_i32_221 : BitVec 32 := 1#32
  let v320 : BitVec 32 := Scalar.select v319 c1_i32_221 c4_i32_219
  let v321 : BitVec 32 := Scalar.remsi v318 v320
  let c0_i32_223 : BitVec 32 := 0#32
  let v323 : BitVec 1 := Scalar.cmpi .slt v321 c0_i32_223
  let c0_i32_224 : BitVec 32 := 0#32
  let v324 : BitVec 1 := Scalar.cmpi .slt v320 c0_i32_224
  let v325 : BitVec 1 := Scalar.xori v323 v324
  let c0_i32_222 : BitVec 32 := 0#32
  let v322 : BitVec 1 := Scalar.cmpi .ne v321 c0_i32_222
  let v326 : BitVec 1 := Scalar.andi v325 v322
  let v327 : BitVec 32 := Scalar.addi v321 v320
  let v328 : BitVec 32 := Scalar.select v326 v327 v321
  let c256_i32_226 : BitVec 32 := 256#32
  let v330 : BitVec 32 := Scalar.muli v328 c256_i32_226
  let v331 : BitVec 32 := Scalar.addi v329 v330
  let c0_i32_233 : BitVec 32 := 0#32
  ![v331.toNat, 0]
def k0_dev14 (d0 : Dev nD) : Nat :=
  let c0_i32_237 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_236 : BitVec 32 := 8#32
  let v341 : BitVec 32 := Scalar.muli v54 c8_i32_236
  let v342 : BitVec 32 := Scalar.addi c0_i32_237 v341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_238 : BitVec 32 := 4#32
  let v343 : BitVec 32 := Scalar.muli v5 c4_i32_238
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v345 : BitVec 32 := Scalar.muli v8 c1_i32_239
  let v346 : BitVec 32 := Scalar.addi v344 v345
  v346.toNat
def k0_dev15 (d0 : Dev nD) : Nat :=
  let c0_i32_245 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_244 : BitVec 32 := 8#32
  let v353 : BitVec 32 := Scalar.muli v2 c8_i32_244
  let v354 : BitVec 32 := Scalar.addi c0_i32_245 v353
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_246 : BitVec 32 := 4#32
  let v355 : BitVec 32 := Scalar.muli v55 c4_i32_246
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v357 : BitVec 32 := Scalar.muli v8 c1_i32_247
  let v358 : BitVec 32 := Scalar.addi v356 v357
  v358.toNat
def k0_dev16 (d0 : Dev nD) : Nat :=
  let c0_i32_269 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_268 : BitVec 32 := 8#32
  let v388 : BitVec 32 := Scalar.muli v54 c8_i32_268
  let v389 : BitVec 32 := Scalar.addi c0_i32_269 v388
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_270 : BitVec 32 := 4#32
  let v390 : BitVec 32 := Scalar.muli v5 c4_i32_270
  let v391 : BitVec 32 := Scalar.addi v389 v390
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v392 : BitVec 32 := Scalar.muli v8 c1_i32_271
  let v393 : BitVec 32 := Scalar.addi v391 v392
  v393.toNat
def k0_dev17 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v400 : BitVec 32 := Scalar.muli v2 c8_i32_276
  let v401 : BitVec 32 := Scalar.addi c0_i32_277 v400
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_278 : BitVec 32 := 4#32
  let v402 : BitVec 32 := Scalar.muli v55 c4_i32_278
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v404 : BitVec 32 := Scalar.muli v8 c1_i32_279
  let v405 : BitVec 32 := Scalar.addi v403 v404
  v405.toNat
def k0_dev18 (d0 : Dev nD) : Nat :=
  let c0_i32_301 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_300 : BitVec 32 := 8#32
  let v435 : BitVec 32 := Scalar.muli v54 c8_i32_300
  let v436 : BitVec 32 := Scalar.addi c0_i32_301 v435
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v437 : BitVec 32 := Scalar.muli v5 c4_i32_302
  let v438 : BitVec 32 := Scalar.addi v436 v437
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v439 : BitVec 32 := Scalar.muli v8 c1_i32_303
  let v440 : BitVec 32 := Scalar.addi v438 v439
  v440.toNat
def k0_dev19 (d0 : Dev nD) : Nat :=
  let c0_i32_309 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_308 : BitVec 32 := 8#32
  let v447 : BitVec 32 := Scalar.muli v2 c8_i32_308
  let v448 : BitVec 32 := Scalar.addi c0_i32_309 v447
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_310 : BitVec 32 := 4#32
  let v449 : BitVec 32 := Scalar.muli v55 c4_i32_310
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v451 : BitVec 32 := Scalar.muli v8 c1_i32_311
  let v452 : BitVec 32 := Scalar.addi v450 v451
  v452.toNat
def k0_off7 (d0 : Dev nD) (c0_i32_314 : BitVec 32) : Fin 2 → Nat :=
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_321 : BitVec 32 := 1024#32
  let v470 : BitVec 32 := Scalar.muli v13 c1024_i32_321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v459 : BitVec 32 := Scalar.subi v8 c0_i32_314
  let c4_i32_315 : BitVec 32 := 4#32
  let c0_i32_316 : BitVec 32 := 0#32
  let v460 : BitVec 1 := Scalar.cmpi .eq c4_i32_315 c0_i32_316
  let c1_i32_317 : BitVec 32 := 1#32
  let v461 : BitVec 32 := Scalar.select v460 c1_i32_317 c4_i32_315
  let v462 : BitVec 32 := Scalar.remsi v459 v461
  let c0_i32_319 : BitVec 32 := 0#32
  let v464 : BitVec 1 := Scalar.cmpi .slt v462 c0_i32_319
  let c0_i32_320 : BitVec 32 := 0#32
  let v465 : BitVec 1 := Scalar.cmpi .slt v461 c0_i32_320
  let v466 : BitVec 1 := Scalar.xori v464 v465
  let c0_i32_318 : BitVec 32 := 0#32
  let v463 : BitVec 1 := Scalar.cmpi .ne v462 c0_i32_318
  let v467 : BitVec 1 := Scalar.andi v466 v463
  let v468 : BitVec 32 := Scalar.addi v462 v461
  let v469 : BitVec 32 := Scalar.select v467 v468 v462
  let c256_i32_322 : BitVec 32 := 256#32
  let v471 : BitVec 32 := Scalar.muli v469 c256_i32_322
  let v472 : BitVec 32 := Scalar.addi v470 v471
  let c0_i32_329 : BitVec 32 := 0#32
  ![v472.toNat, 0]
def k0_dev20 (d0 : Dev nD) : Nat :=
  let c0_i32_333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_332 : BitVec 32 := 8#32
  let v482 : BitVec 32 := Scalar.muli v2 c8_i32_332
  let v483 : BitVec 32 := Scalar.addi c0_i32_333 v482
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_334 : BitVec 32 := 4#32
  let v484 : BitVec 32 := Scalar.muli v55 c4_i32_334
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v486 : BitVec 32 := Scalar.muli v8 c1_i32_335
  let v487 : BitVec 32 := Scalar.addi v485 v486
  v487.toNat
def k0_dev21 (d0 : Dev nD) : Nat :=
  let c0_i32_357 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_356 : BitVec 32 := 8#32
  let v517 : BitVec 32 := Scalar.muli v2 c8_i32_356
  let v518 : BitVec 32 := Scalar.addi c0_i32_357 v517
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_358 : BitVec 32 := 4#32
  let v519 : BitVec 32 := Scalar.muli v55 c4_i32_358
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_359 : BitVec 32 := 1#32
  let v521 : BitVec 32 := Scalar.muli v8 c1_i32_359
  let v522 : BitVec 32 := Scalar.addi v520 v521
  v522.toNat
def k0_off8 (d0 : Dev nD) (c0_i32_394 : BitVec 32) : Fin 2 → Nat :=
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_401 : BitVec 32 := 1024#32
  let v586 : BitVec 32 := Scalar.muli v16 c1024_i32_401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v575 : BitVec 32 := Scalar.subi v8 c0_i32_394
  let c4_i32_395 : BitVec 32 := 4#32
  let c0_i32_396 : BitVec 32 := 0#32
  let v576 : BitVec 1 := Scalar.cmpi .eq c4_i32_395 c0_i32_396
  let c1_i32_397 : BitVec 32 := 1#32
  let v577 : BitVec 32 := Scalar.select v576 c1_i32_397 c4_i32_395
  let v578 : BitVec 32 := Scalar.remsi v575 v577
  let c0_i32_399 : BitVec 32 := 0#32
  let v580 : BitVec 1 := Scalar.cmpi .slt v578 c0_i32_399
  let c0_i32_400 : BitVec 32 := 0#32
  let v581 : BitVec 1 := Scalar.cmpi .slt v577 c0_i32_400
  let v582 : BitVec 1 := Scalar.xori v580 v581
  let c0_i32_398 : BitVec 32 := 0#32
  let v579 : BitVec 1 := Scalar.cmpi .ne v578 c0_i32_398
  let v583 : BitVec 1 := Scalar.andi v582 v579
  let v584 : BitVec 32 := Scalar.addi v578 v577
  let v585 : BitVec 32 := Scalar.select v583 v584 v578
  let c256_i32_402 : BitVec 32 := 256#32
  let v587 : BitVec 32 := Scalar.muli v585 c256_i32_402
  let v588 : BitVec 32 := Scalar.addi v586 v587
  let c0_i32_409 : BitVec 32 := 0#32
  ![v588.toNat, 0]
def k0_dev22 (d0 : Dev nD) : Nat :=
  let c0_i32_445 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_444 : BitVec 32 := 8#32
  let v644 : BitVec 32 := Scalar.muli v54 c8_i32_444
  let v645 : BitVec 32 := Scalar.addi c0_i32_445 v644
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_446 : BitVec 32 := 4#32
  let v646 : BitVec 32 := Scalar.muli v5 c4_i32_446
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_447 : BitVec 32 := 1#32
  let v648 : BitVec 32 := Scalar.muli v8 c1_i32_447
  let v649 : BitVec 32 := Scalar.addi v647 v648
  v649.toNat
def k0_dev23 (d0 : Dev nD) : Nat :=
  let c0_i32_469 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_468 : BitVec 32 := 8#32
  let v679 : BitVec 32 := Scalar.muli v54 c8_i32_468
  let v680 : BitVec 32 := Scalar.addi c0_i32_469 v679
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v681 : BitVec 32 := Scalar.muli v5 c4_i32_470
  let v682 : BitVec 32 := Scalar.addi v680 v681
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v683 : BitVec 32 := Scalar.muli v8 c1_i32_471
  let v684 : BitVec 32 := Scalar.addi v682 v683
  v684.toNat
def k0_off9 (d0 : Dev nD) (c0_i32_474 : BitVec 32) : Fin 2 → Nat :=
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32_481 : BitVec 32 := 1024#32
  let v702 : BitVec 32 := Scalar.muli v20 c1024_i32_481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v691 : BitVec 32 := Scalar.subi v8 c0_i32_474
  let c4_i32_475 : BitVec 32 := 4#32
  let c0_i32_476 : BitVec 32 := 0#32
  let v692 : BitVec 1 := Scalar.cmpi .eq c4_i32_475 c0_i32_476
  let c1_i32_477 : BitVec 32 := 1#32
  let v693 : BitVec 32 := Scalar.select v692 c1_i32_477 c4_i32_475
  let v694 : BitVec 32 := Scalar.remsi v691 v693
  let c0_i32_479 : BitVec 32 := 0#32
  let v696 : BitVec 1 := Scalar.cmpi .slt v694 c0_i32_479
  let c0_i32_480 : BitVec 32 := 0#32
  let v697 : BitVec 1 := Scalar.cmpi .slt v693 c0_i32_480
  let v698 : BitVec 1 := Scalar.xori v696 v697
  let c0_i32_478 : BitVec 32 := 0#32
  let v695 : BitVec 1 := Scalar.cmpi .ne v694 c0_i32_478
  let v699 : BitVec 1 := Scalar.andi v698 v695
  let v700 : BitVec 32 := Scalar.addi v694 v693
  let v701 : BitVec 32 := Scalar.select v699 v700 v694
  let c256_i32_482 : BitVec 32 := 256#32
  let v703 : BitVec 32 := Scalar.muli v701 c256_i32_482
  let v704 : BitVec 32 := Scalar.addi v702 v703
  let c0_i32_489 : BitVec 32 := 0#32
  ![v704.toNat, 0]
def k0_dev24 (d0 : Dev nD) : Nat :=
  let c0_i32_633_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_632_r0 : BitVec 32 := 8#32
  let v856_r0 : BitVec 32 := Scalar.muli v2 c8_i32_632_r0
  let v857_r0 : BitVec 32 := Scalar.addi c0_i32_633_r0 v856_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_634_r0 : BitVec 32 := 4#32
  let v858_r0 : BitVec 32 := Scalar.muli v5 c4_i32_634_r0
  let v859_r0 : BitVec 32 := Scalar.addi v857_r0 v858_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v21 : BitVec 32 := Scalar.addi v8 c1_i32_10
  let c4_i32_11 : BitVec 32 := 4#32
  let c0_i32 : BitVec 32 := 0#32
  let v22 : BitVec 1 := Scalar.cmpi .eq c4_i32_11 c0_i32
  let c1_i32_12 : BitVec 32 := 1#32
  let v23 : BitVec 32 := Scalar.select v22 c1_i32_12 c4_i32_11
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_635_r0 : BitVec 32 := 1#32
  let v860_r0 : BitVec 32 := Scalar.muli v31 c1_i32_635_r0
  let v861_r0 : BitVec 32 := Scalar.addi v859_r0 v860_r0
  v861_r0.toNat
def k0_dev25 (d0 : Dev nD) : Nat :=
  let c0_i32_638_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_637_r0 : BitVec 32 := 8#32
  let v862_r0 : BitVec 32 := Scalar.muli v2 c8_i32_637_r0
  let v863_r0 : BitVec 32 := Scalar.addi c0_i32_638_r0 v862_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_639_r0 : BitVec 32 := 4#32
  let v864_r0 : BitVec 32 := Scalar.muli v5 c4_i32_639_r0
  let v865_r0 : BitVec 32 := Scalar.addi v863_r0 v864_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_16 : BitVec 32 := 2#32
  let v32 : BitVec 32 := Scalar.addi v8 c2_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_640_r0 : BitVec 32 := 1#32
  let v866_r0 : BitVec 32 := Scalar.muli v42 c1_i32_640_r0
  let v867_r0 : BitVec 32 := Scalar.addi v865_r0 v866_r0
  v867_r0.toNat
def k0_dev26 (d0 : Dev nD) : Nat :=
  let c0_i32_643_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_642_r0 : BitVec 32 := 8#32
  let v868_r0 : BitVec 32 := Scalar.muli v2 c8_i32_642_r0
  let v869_r0 : BitVec 32 := Scalar.addi c0_i32_643_r0 v868_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644_r0 : BitVec 32 := 4#32
  let v870_r0 : BitVec 32 := Scalar.muli v5 c4_i32_644_r0
  let v871_r0 : BitVec 32 := Scalar.addi v869_r0 v870_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v43 : BitVec 32 := Scalar.addi v8 c3_i32
  let c4_i32_23 : BitVec 32 := 4#32
  let c0_i32_24 : BitVec 32 := 0#32
  let v44 : BitVec 1 := Scalar.cmpi .eq c4_i32_23 c0_i32_24
  let c1_i32_25 : BitVec 32 := 1#32
  let v45 : BitVec 32 := Scalar.select v44 c1_i32_25 c4_i32_23
  let v46 : BitVec 32 := Scalar.remsi v43 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c1_i32_645_r0 : BitVec 32 := 1#32
  let v872_r0 : BitVec 32 := Scalar.muli v53 c1_i32_645_r0
  let v873_r0 : BitVec 32 := Scalar.addi v871_r0 v872_r0
  v873_r0.toNat
def k0_dev27 (d0 : Dev nD) : Nat :=
  let c0_i32_648_r0 : BitVec 32 := 0#32
  let c1_i32_29 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v54 : BitVec 32 := Scalar.subi c1_i32_29 v2
  let c8_i32_647_r0 : BitVec 32 := 8#32
  let v874_r0 : BitVec 32 := Scalar.muli v54 c8_i32_647_r0
  let v875_r0 : BitVec 32 := Scalar.addi c0_i32_648_r0 v874_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_649_r0 : BitVec 32 := 4#32
  let v876_r0 : BitVec 32 := Scalar.muli v5 c4_i32_649_r0
  let v877_r0 : BitVec 32 := Scalar.addi v875_r0 v876_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_650_r0 : BitVec 32 := 1#32
  let v878_r0 : BitVec 32 := Scalar.muli v8 c1_i32_650_r0
  let v879_r0 : BitVec 32 := Scalar.addi v877_r0 v878_r0
  v879_r0.toNat
def k0_dev28 (d0 : Dev nD) : Nat :=
  let c0_i32_653_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_652_r0 : BitVec 32 := 8#32
  let v880_r0 : BitVec 32 := Scalar.muli v2 c8_i32_652_r0
  let v881_r0 : BitVec 32 := Scalar.addi c0_i32_653_r0 v880_r0
  let c1_i32_30 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_30 v5
  let c4_i32_654_r0 : BitVec 32 := 4#32
  let v882_r0 : BitVec 32 := Scalar.muli v55 c4_i32_654_r0
  let v883_r0 : BitVec 32 := Scalar.addi v881_r0 v882_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_655_r0 : BitVec 32 := 1#32
  let v884_r0 : BitVec 32 := Scalar.muli v8 c1_i32_655_r0
  let v885_r0 : BitVec 32 := Scalar.addi v883_r0 v884_r0
  v885_r0.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.IdealPlan.lean ====
/-
The plan of the all-reduce kernel's transfers, as the separation-logic proof keeps it: which device exchanges what with
which, what every buffer holds when it is handed over, and the schedule of the semaphores.

Sixteen devices lie on a 2 × 2 × 4 mesh; device `c` has the logical id `8x + 4y + z`. Its five partners are the three other
devices of its column (same `x` and `y`) and the devices across the `x` and the `y` axis. The result's 4096 rows are
sixteen blocks of 256, one per device: block `r` is the one device `r` sums; everybody else's copy of it is a copy of that.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Tactic
public import Idealize.ShloMosaic.Lib.ValueIdxCore

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The resource algebra: the staging pipeline's rounds and the kernel's own, with five duty names -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

/-- The device `k` places up device `c`'s column. -/
def zp (c : Dev nD) (k : ℕ) : Dev nD :=
  ⟨4 * (c.val / 4) + (c.val % 4 + k) % 4, by have := c.isLt; show _ < 16; have : c.val < 16 := this; omega⟩
/-- The device `k` places down device `c`'s column. -/
def zm (c : Dev nD) (k : ℕ) : Dev nD := zp c (3 * k)
/-- The device across the `x` axis. -/
def xn (c : Dev nD) : Dev nD := ⟨(c.val + 8) % 16, Nat.mod_lt _ (by decide)⟩
/-- The device across the `y` axis. -/
def yn (c : Dev nD) : Dev nD :=
  ⟨8 * (c.val / 8) + (c.val % 8 + 4) % 8, by have := c.isLt; show _ < 16; have : c.val < 16 := this; omega⟩

/-- Device `c`'s partner number `p`: up its column by one, two, three; across `x`; across `y`. -/
def tgt (p : Fin 5) (c : Dev nD) : Dev nD :=
  match p with
  | 0 => zp c 1 | 1 => zp c 2 | 2 => zp c 3 | 3 => xn c | 4 => yn c

/-- The device whose partner number `p` is `c`. -/
def tgtInv (p : Fin 5) (c : Dev nD) : Dev nD :=
  match p with
  | 0 => zp c 3 | 1 => zp c 2 | 2 => zp c 1 | 3 => xn c | 4 => yn c

/-- The device whose partner number `p` is `c`'s partner number `p` is `c`, -/
theorem tgtInv_tgt (p : Fin 5) (c : Dev nD) : tgtInv p (tgt p c) = c := by revert p c; decide
/-- and the other way round. -/
theorem tgt_tgtInv (p : Fin 5) (c : Dev nD) : tgt p (tgtInv p c) = c := by revert p c; decide

/-- Partner number `p` as a rearrangement of the mesh. -/
def tgtE (p : Fin 5) : Dev nD ≃ Dev nD := ⟨tgt p, tgtInv p, tgtInv_tgt p, tgt_tgtInv p⟩

/-- Twice across `x` is nowhere, -/
theorem xn_xn (c : Dev nD) : xn (xn c) = c := by revert c; decide
/-- so is twice across `y`, -/
theorem yn_yn (c : Dev nD) : yn (yn c) = c := by revert c; decide
/-- and the two axes commute. -/
theorem xn_yn_xn (c : Dev nD) : xn (yn (xn c)) = yn c := by revert c; decide

/-! ## What the buffers hold -/

/-- Device `c`'s argument. -/
abbrev X (c : Dev nD) : (main_arg0 : Ref sig .tc).ty.Contents (Elt F) := m ((c : Thread nD τ).loc main_arg0)

/-- The quarter of its argument device `c` copies in: the 1024 rows its column sums. -/
def xqV (c : Dev nD) : (cc0_scratch0 : Ref sig .tc).ty.Contents (Elt F) := fun i =>
  X m c (ix2 (n0 := 4096) (n1 := 1024) ⟨1024 * (c.val / 4) + (i 0).val, by
    have h : (i 0).val < 1024 := (i 0).isLt
    have := c.isLt
    have : c.val < 16 := this
    omega⟩ (i 1))

/-- The same rounded to bf16. -/
def xbV (c : Dev nD) : (cc0_scratch1 : Ref sig .tc).ty.Contents (Elt F) := k0_pay1 (xqV m c)

/-- What device `c` has received: slot `j` holds its own 256 rows of the rounded quarter of the device `j + 1` down. -/
def rsV (c : Dev nD) : (cc0_scratch3 : Ref sig .tc).ty.Contents (Elt F) := fun i =>
  xbV m (zm c ((i 0).val + 1)) (ix2 (n0 := 1024) (n1 := 1024) ⟨256 * (c.val % 4) + (i 1).val, by
    have h : (i 1).val < 256 := (i 1).isLt
    omega⟩ (i 2))

/-- The block device `c` sums: its own 256 rows and the three slots. -/
def redV (c : Dev nD) : (cc0_scratch2 : Ref sig .tc).ty.Contents (Elt F) :=
  k0_pay2
    ((Memref.whole cc0_scratch0 : Memref sig .tc .vmem S1024x1024 .f32).view.readAt (Elt F)
      (Rect.unit (s := S1024x1024) (k0_off3 c) S256x1024.size (k0_off3_inb c)).toLoadRect (xqV m c))
    ((Memref.whole cc0_scratch3 : Memref sig .tc .vmem S3x256x1024 .bf16).view.readAt (Elt F)
      (Rect.unit (s := S3x256x1024) ![0, 0, 0] S1x256x1024.size inb_S3x256x1024_S1x256x1024_0_0_0).toLoadRect (rsV m c))
    ((Memref.whole cc0_scratch3 : Memref sig .tc .vmem S3x256x1024 .bf16).view.readAt (Elt F)
      (Rect.unit (s := S3x256x1024) ![1, 0, 0] S1x256x1024.size inb_S3x256x1024_S1x256x1024_1_0_0).toLoadRect (rsV m c))
    ((Memref.whole cc0_scratch3 : Memref sig .tc .vmem S3x256x1024 .bf16).view.readAt (Elt F)
      (Rect.unit (s := S3x256x1024) ![2, 0, 0] S1x256x1024.size inb_S3x256x1024_S1x256x1024_2_0_0).toLoadRect (rsV m c))

/-- The whole result, the same on every device: block `r` is what device `r` sums. -/
def outV : (cc0_stg0_0 : Ref sig .tc).ty.Contents (Elt F) := fun i =>
  redV m (⟨(i 0).val / 256, by
    have h : (i 0).val < 4096 := (i 0).isLt
    show _ < 16
    omega⟩ : Dev nD) (ix2 (n0 := 256) (n1 := 1024) ⟨(i 0).val % 256, Nat.mod_lt _ (by decide)⟩ (i 1))

/-! ## Pieces of buffers -/

/-- Rows `256 k` to `256 k + 255` of a result's staging buffer. -/
def blk (k : ℕ) : Finset S4096x1024.Idx := Finset.univ.filter fun i => (i 0).val / 256 = k
/-- Rows `256 k` to `256 k + 255` of the rounded quarter. -/
def xrows (k : ℕ) : Finset S1024x1024.Idx := Finset.univ.filter fun i => (i 0).val / 256 = k
/-- Slot `k` of the receive buffer. -/
def slot (k : ℕ) : Finset S3x256x1024.Idx := Finset.univ.filter fun i => (i 0).val = k

/-- A share of block `r` of device `c`'s result, summed. -/
def ob (c r : Dev nD) (q : PosShare TreeShare) : sProp 𝕄 := ((c : Thread nD τ).loc cc0_stg0_0) ↦[blk r.val]{q} outV m
/-- Block `r` of device `c`'s result at whatever it holds. -/
def oa (c r : Dev nD) : sProp 𝕄 := iprop(∃ f : Buf (Elt F) ((c : Thread nD τ).loc cc0_stg0_0), ((c : Thread nD τ).loc cc0_stg0_0) ↦[blk r.val]{fullShare} f)
/-- Slot `k` of device `c`'s receive buffer, received. -/
def sr (c : Dev nD) (k : ℕ) : sProp 𝕄 := ((c : Thread nD τ).loc cc0_scratch3) ↦[slot k]{fullShare} rsV m c
/-- Slot `k` of device `c`'s receive buffer at whatever it holds. -/
def sa (c : Dev nD) (k : ℕ) : sProp 𝕄 := iprop(∃ f : Buf (Elt F) ((c : Thread nD τ).loc cc0_scratch3), ((c : Thread nD τ).loc cc0_scratch3) ↦[slot k]{fullShare} f)
/-- The 256 rows of device `c`'s rounded quarter that belong to the device `o` up its column. -/
def xb (c : Dev nD) (o : ℕ) : sProp 𝕄 := ((c : Thread nD τ).loc cc0_scratch1) ↦[xrows ((c.val % 4 + o) % 4)]{fullShare} xbV m c
/-- A share of device `c`'s summed block. -/
def rd (c : Dev nD) (q : PosShare TreeShare) : sProp 𝕄 := ((c : Thread nD τ).loc cc0_scratch2) ↦{q} redV m c
/-- The three shares the summed block is sent under. -/
def shr (k : ℕ) : PosShare TreeShare := if k = 0 then fullShare.left else if k = 1 then fullShare.right.left else fullShare.right.right
/-- Device `c`'s copied quarter. -/
def xq (c : Dev nD) : sProp 𝕄 := ((c : Thread nD τ).loc cc0_scratch0) ↦{fullShare} xqV m c
/-- The rows of device `c`'s argument that are copied. -/
abbrev argM (c : Dev nD) : Memref sig .tc .hbm S1024x1024 .f32 :=
  (Memref.whole main_arg0 : Memref sig .tc .hbm S4096x1024 .f32).slice (Rect.unit (s := S4096x1024) (k0_off1 c) S1024x1024.size (k0_off1_inb c)) (fun _ => rfl)
def xa (c : Dev nD) : sProp 𝕄 := ((c : Thread nD τ).loc main_arg0) ↦[(argM c).view.set]{fullShare} X m c

/-! ## The semaphores' schedule -/

/-- The credit of one 256 × 1024 bf16 block's transfer, -/
abbrev NB : ℕ := (Memref.whole cc0_scratch2 : Memref sig .tc .vmem S256x1024 .bf16).view.dmaCredit
/-- and of the quarter's. -/
abbrev NC : ℕ := (Memref.whole cc0_scratch0 : Memref sig .tc .vmem S1024x1024 .f32).view.dmaCredit
/-- A block's credit is not zero, -/
theorem NB_pos : 0 < NB := View.dmaCredit_pos _ (by decide)
/-- nor is the quarter's. -/
theorem NC_pos : 0 < NC := View.dmaCredit_pos _ (by decide)

/-- What a semaphore rises by per arrival. -/
def amt : SemLoc sig → ℕ
  | .reg _ => 1
  | .dma n => if n.val = 1 then NC else NB

/-- What the arrival from the device whose partner number `p` is `c` hands device `c` at the entry barrier: the right to write
    what `c` will send there. -/
def barPay (c : Dev nD) (p : Fin 5) : sProp 𝕄 :=
  match p with
  | 0 => iprop(sa (tgt 2 c) 2 ∗ oa (tgt 2 c) (zm c 0))
  | 1 => iprop(sa (tgt 1 c) 1 ∗ oa (tgt 1 c) (zm c 0))
  | 2 => iprop(sa (tgt 0 c) 0 ∗ oa (tgt 0 c) (zm c 0))
  | 3 => iprop(oa (xn c) (zm c 0) ∗ oa (xn c) (zm c 1) ∗ oa (xn c) (zm c 2) ∗ oa (xn c) (zm c 3) ∗ oa (xn c) (zm (yn c) 2) ∗ oa (xn c) (zm (yn c) 3))
  | 4 => iprop(oa (yn c) (zm c 0) ∗ oa (yn c) (zm c 1) ∗ oa (yn c) (zm c 2) ∗ oa (yn c) (zm c 3) ∗ oa (yn c) (zm (xn c) 0) ∗ oa (yn c) (zm (xn c) 1))

/-- What an arrival on DMA semaphore number `n` of device `c` hands it: a source's share back, or a destination filled. -/
def dmaPay (c : Dev nD) (n : ℕ) : sProp 𝕄 :=
  if n < 2 then iprop(xq m c ∗ xa m c)
  else if n < 5 then xb m c (n - 2 + 1)
  else if n < 8 then sr m c (n - 5)
  else if n < 11 then rd m c (shr (n - 8))
  else if n < 14 then ob m c (zm c (n - 11 + 1)) fullShare
  else if n < 18 then ob m c (zm c (n - 14)) fullShare.left
  else if n < 22 then ob m c (zm (xn c) (n - 18)) fullShare
  else if n < 26 then ob m c (zm c (n - 22)) fullShare.right
  else if n < 30 then ob m c (zm (yn c) (n - 26)) fullShare
  else if n < 32 then ob m c (zm (xn c) (n - 30)) fullShare
  else if n < 34 then ob m c (zm (xn (yn c)) (n - 32)) fullShare
  else if n < 36 then ob m c (zm (yn c) (n - 34 + 2)) fullShare
  else ob m c (zm (xn (yn c)) (n - 36 + 2)) fullShare

/-- What an arrival on a semaphore of device `c` hands it. -/
def pay (c : Dev nD) (s : SemLoc sig) (p : Fin 5) : sProp 𝕄 :=
  match s with
  | .reg s => if s.val = 0 then barPay c p else iprop(emp)
  | .dma n => dmaPay m c n.val

/-- Who arrives: the five partners at a barrier, one transfer at a DMA semaphore (the result's staging semaphore, number
    0, is not the kernel's). -/
def arrivals : SemLoc sig → Finset (Fin 5)
  | .reg _ => Finset.univ
  | .dma n => if n.val = 0 then ∅ else {0}

/-- One round on every semaphore. -/
def rdS : Rounds.Schedule (GSem nD τ sig) (Fin 5) 𝕄 where
  duties g r := if r = 0 ∧ g.1.2 = .tc then arrivals g.2 else ∅
  unitless _ := False
  amount g _ _ := amt g.2
  payload g _ d := pay m g.1.1 g.2 d
  amount_pos g _ _ _ := by
    show 0 < amt g.2
    unfold amt
    split
    · exact Nat.one_pos
    · split
      · exact NC_pos
      · exact NB_pos

section Storable
variable (c r : Dev nD) (k : ℕ) (q : PosShare TreeShare)
instance ob_storable : BI.Storable (upEmb : UEmb _ 𝕄) (ob m c r q) := by unfold ob; infer_instance
instance oa_storable : BI.Storable (upEmb : UEmb _ 𝕄) (oa (F := F) c r) := by unfold oa; infer_instance
instance sr_storable : BI.Storable (upEmb : UEmb _ 𝕄) (sr m c k) := by unfold sr; infer_instance
instance sa_storable : BI.Storable (upEmb : UEmb _ 𝕄) (sa (F := F) c k) := by unfold sa; infer_instance
instance xb_storable : BI.Storable (upEmb : UEmb _ 𝕄) (xb m c k) := by unfold xb; infer_instance
instance rd_storable : BI.Storable (upEmb : UEmb _ 𝕄) (rd m c q) := by unfold rd; infer_instance
instance xq_storable : BI.Storable (upEmb : UEmb _ 𝕄) (xq m c) := by unfold xq; infer_instance
instance xa_storable : BI.Storable (upEmb : UEmb _ 𝕄) (xa m c) := by unfold xa; infer_instance
instance ite_storable (p : Prop) [Decidable p] (P Q : sProp 𝕄) [BI.Storable (upEmb : UEmb _ 𝕄) P] [BI.Storable (upEmb : UEmb _ 𝕄) Q] :
    BI.Storable (upEmb : UEmb _ 𝕄) (if p then P else Q) := by split <;> infer_instance
end Storable

instance barPay_storable (c : Dev nD) (p : Fin 5) : BI.Storable (upEmb : UEmb _ 𝕄) (barPay (F := F) c p) := by
  unfold barPay; split <;> infer_instance
instance dmaPay_storable (c : Dev nD) (n : ℕ) : BI.Storable (upEmb : UEmb _ 𝕄) (dmaPay m c n) := by
  unfold dmaPay; infer_instance
instance pay_storable (c : Dev nD) (s : SemLoc sig) (p : Fin 5) : BI.Storable (upEmb : UEmb _ 𝕄) (pay m c s p) := by
  unfold pay; split <;> infer_instance

instance rdS_payload_storable (g : GSem nD τ sig) (r : ℕ) (d : Fin 5) :
    BI.Storable (upEmb : UEmb _ 𝕄) ((rdS (F := F) m).payload g r d) := pay_storable m g.1.1 g.2 d

section Tables
variable (c : Dev nD)

/-- Who arrives at a semaphore in its one round; -/
theorem duties_at (s : SemLoc sig) : (rdS (F := F) m).duties ((c : Thread nD τ), s) 0 = arrivals s := by
  show (if (0 = 0 ∧ (c : Thread nD τ).2 = .tc) then arrivals s else ∅) = _
  exact if_pos ⟨rfl, rfl⟩
/-- nobody afterwards. -/
theorem duties_later (g : GSem nD τ sig) : ∀ r, 1 ≤ r → (rdS (F := F) m).duties g r = ∅ :=
  fun r hr => by
    show (if (r = 0 ∧ g.1.2 = .tc) then arrivals g.2 else ∅) = _
    exact if_neg fun h => by omega
/-- An arrival's amount depends on the semaphore alone, -/
theorem amount_at (g : GSem nD τ sig) (r : ℕ) (d : Fin 5) : (rdS (F := F) m).amount g r d = amt g.2 := rfl
/-- and what it hands over is as listed. -/
theorem payload_at (s : SemLoc sig) (r : ℕ) (d : Fin 5) : (rdS (F := F) m).payload ((c : Thread nD τ), s) r d = pay m c s d := rfl

/-- A DMA semaphore awaits one transfer's credit, -/
theorem expect_dma (n : DmaSem sig) (hn : n.val ≠ 0) : (rdS (F := F) m).expect ((c : Thread nD τ), .dma n) 0 = amt (.dma n) := by
  unfold Schedule.expect Schedule.amountOf
  rw [duties_at, show arrivals (.dma n) = {0} from if_neg hn, Finset.sum_singleton, amount_at]
/-- a barrier five signals. -/
theorem expect_reg (n : Sem sig) : (rdS (F := F) m).expect ((c : Thread nD τ), .reg n) 0 = 5 := by
  unfold Schedule.expect Schedule.amountOf
  rw [duties_at, Finset.sum_congr rfl fun d _ => amount_at m _ 0 d]
  show ∑ _d : Fin 5, 1 = 5
  decide

/-- The one arrival at a DMA semaphore, read off the round's rest. -/
theorem rest_dma (n : DmaSem sig) (hn : n.val ≠ 0) :
    bigSep ((rdS (F := F) m).duties ((c : Thread nD τ), .dma n) 0 \ ∅) (fun d => (rdS (F := F) m).payload ((c : Thread nD τ), .dma n) 0 d) = dmaPay m c n.val := by
  rw [Finset.sdiff_empty, duties_at, show arrivals (.dma n) = {0} from if_neg hn, bigSep_singleton, payload_at]
  rfl

/-- Five things side by side, written out. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The five arrivals at the entry barrier, read off the round's rest. -/
theorem rest_reg (s : Sem sig) :
    bigSep ((rdS (F := F) m).duties ((c : Thread nD τ), .reg s) 0 \ ∅) (fun d => (rdS (F := F) m).payload ((c : Thread nD τ), .reg s) 0 d)
      = bigSep Finset.univ (fun p : Fin 5 => pay m c (.reg s) p) := by
  rw [Finset.sdiff_empty, duties_at]
  rfl

end Tables

/-! ## What each device owes, and in what order the waits may nest -/

/-- What a device pays its partners, in program order: the partner's number and the semaphore there. -/
def payList : List (Fin 5 × SemLoc sig) :=
  [(0, .reg 0), (1, .reg 0), (2, .reg 0), (3, .reg 0), (4, .reg 0),
   (0, .dma 5), (1, .dma 6), (2, .dma 7),
   (0, .dma 11), (1, .dma 12), (2, .dma 13),
   (3, .dma 18), (4, .dma 26), (3, .dma 19), (4, .dma 27), (3, .dma 20), (4, .dma 28), (3, .dma 21), (4, .dma 29),
   (4, .dma 32), (4, .dma 33), (3, .dma 36), (3, .dma 37),
   (0, .reg 1), (1, .reg 1), (2, .reg 1), (3, .reg 1), (4, .reg 1)]

/-- The sum of such a list's dues of device `c`. -/
def oweL (c : Dev nD) : List (Fin 5 × SemLoc sig) → CellTallies nD τ sig Unit
  | [] => 0
  | x :: l => oweL c l + tallyAt ((tgt x.1 c : Thread nD τ), x.2) () (amt x.2)

def L (g : GSem nD τ sig) : Finset Unit := if g.1.2 = .tc then {()} else ∅

/-- The levels: a device waits on a semaphore only while everything it still owes lies above it. -/
def lvl : SemLoc sig → ℕ
  | .reg s => if s.val = 0 then 1 else 7
  | .dma n => if n.val < 5 then 0 else if n.val < 8 then 2 else if n.val < 11 then 0 else if n.val < 14 then 3 else if n.val < 18 then 0
      else if n.val < 22 then 4 else if n.val < 26 then 0 else if n.val < 30 then 5 else if n.val < 32 then 0 else if n.val < 34 then 6
      else if n.val < 36 then 0 else 6
def lv (g : GSem nD τ sig) (_ : Unit) : ℕ := lvl g.2

/-- Only TensorCore semaphores are counted, -/
theorem L_of_ne (g : GSem nD τ sig) (h : g.1.2 ≠ .tc) : L g = ∅ := if_neg h
/-- each under one name. -/
theorem L_tc (c : Dev nD) (sm : SemLoc sig) : L ((c : Thread nD τ), sm) = {()} := if_pos rfl

/-- Only listed semaphores are owed anything. -/
theorem oweL_pos {c : Dev nD} {l : List (Fin 5 × SemLoc sig)} {g : GSem nD τ sig} {u : Unit} (h : 0 < oweL c l g u) :
    ∃ x ∈ l, g = ((tgt x.1 c : Thread nD τ), x.2) := by
  induction l with
  | nil => exact absurd h (Nat.lt_irrefl 0)
  | cons x l ih =>
    unfold oweL at h
    rw [Pi.add_apply, Finsupp.add_apply, tallyAt_apply] at h
    by_cases hx : g = ((tgt x.1 c : Thread nD τ), x.2) ∧ u = ()
    · exact ⟨x, List.mem_cons_self, hx.1⟩
    · rw [if_neg hx, Nat.add_zero] at h
      obtain ⟨y, hy, he⟩ := ih h
      exact ⟨y, List.mem_cons_of_mem _ hy, he⟩

/-- A device may wait on a semaphore that lies below everything it owes. -/
theorem mayWait (c : Dev nD) (sm : SemLoc sig) (l : List (Fin 5 × SemLoc sig)) (h : ∀ x ∈ l, lvl sm < lvl x.2) :
    (levAts L lv : sProp 𝕄) ⊢ MayWait (c : Thread nD τ) sm () (oweL c l) :=
  MayOwe.of_cut (L := L) (lev := lv) (lvl sm)
    (fun p hp => by rw [Finset.mem_singleton.mp hp, L_tc]; exact Finset.mem_singleton_self _)
    (fun g u hg => by obtain ⟨x, _, rfl⟩ := oweL_pos hg; rw [L_tc]; exact Finset.mem_singleton_self _)
    (fun p hp => by rw [Finset.mem_singleton.mp hp]; exact le_refl _)
    (fun g u hg => by obtain ⟨x, hx, rfl⟩ := oweL_pos hg; exact h x hx)

end Cert.KernelIdeal.AllReduce

end
-- ==== Proof.IdealSteps.lean ====
/-
The kernel's steps under its plan: one lemma per kind of step (a barrier arrival, a barrier wait, a copy, a send, a wait for a
transfer), each saying what a device gives up and what it gets.
-/
module

public import proofs.«01_k».proof.Proof.IdealPlan

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells: the kernel's 39 semaphores on every device -/

/-- Cell number `k` of a device: its two barrier semaphores, then its DMA semaphores from number 1 on. -/
def sl (k : Fin 39) : SemLoc sig :=
  if h : k.val < 2 then .reg (⟨k.val, h⟩ : Fin 2) else .dma (⟨k.val - 1, by have := k.isLt; omega⟩ : Fin 38)
/-- A semaphore's cell number. -/
def ix (s : SemLoc sig) : Fin 39 :=
  match s with
  | .reg s => ⟨s.val, by have : s.val < 2 := s.isLt; omega⟩
  | .dma n => ⟨n.val + 1, by have : n.val < 38 := n.isLt; omega⟩
/-- A semaphore's cell number names it. -/
theorem sl_ix (s : SemLoc sig) (hs : s ≠ .dma (0 : Fin 38)) : sl (ix s) = s := by
  cases s with
  | reg s => exact dif_pos s.isLt
  | dma n =>
    have h0 : n.val ≠ 0 := fun h => hs (congrArg SemLoc.dma (Fin.ext h))
    unfold sl
    rw [dif_neg (by show ¬(n.val + 1 < 2); omega)]
    rfl
def kcell (ck : Dev nD × Fin 39) : GSem nD τ sig := ((ck.1 : Thread nD τ), sl ck.2)

/-- The semaphore at DMA number `n`. -/
abbrev dm (n : Fin 38) : SemLoc sig := .dma n

/-- Every cell's invariant, that every cell's round is reached, and the levels: what every step may use and keeps. -/
def Ctx (K : Dev nD × Fin 39 → ℕ) : sProp 𝕄 :=
  iprop(((bigSep Finset.univ fun ck : Dev nD × Fin 39 => cellInv ER (rdS m) (K ck) (kcell ck))
    ∗ bigSep Finset.univ fun ck : Dev nD × Fin 39 => reached ER (kcell ck) 0) ∗ levAts L lv)

instance ctx_persistent (K : Dev nD × Fin 39 → ℕ) : BI.Persistent (Ctx m K) := by unfold Ctx; infer_instance

variable (K : Dev nD × Fin 39 → ℕ)

/-- Of all cells' invariants, one, -/
theorem inv_at (ck : Dev nD × Fin 39) :
    (bigSep Finset.univ fun ck : Dev nD × Fin 39 => (cellInv ER (rdS m) (K ck) (kcell ck) : sProp 𝕄)) ⊢ cellInv ER (rdS m) (K ck) (kcell ck) :=
  bigSep_elim (Finset.mem_univ ck)
/-- and of all rounds reached, one. -/
theorem reached_at (ck : Dev nD × Fin 39) :
    (bigSep Finset.univ fun ck : Dev nD × Fin 39 => (reached ER (kcell ck) 0 : sProp 𝕄)) ⊢ reached ER (kcell ck) 0 :=
  bigSep_elim (Finset.mem_univ ck)

/-- One cell's invariant and that its round is reached. -/
theorem ctx_at (c : Dev nD) (s : SemLoc sig) (hs : s ≠ .dma (0 : Fin 38)) :
    Ctx m K ⊢ iprop(cellInv ER (rdS m) (K (c, ix s)) ((c : Thread nD τ), s) ∗ reached ER ((c : Thread nD τ), s) 0) := by
  have hk : kcell (c, ix s) = ((c : Thread nD τ), s) := by unfold kcell; rw [sl_ix s hs]
  rw [← hk]
  unfold Ctx
  iintro ⟨⟨#HI, #HR⟩, -⟩
  isplitr
  · iapply (inv_at m K (c, ix s)); iexact HI
  · iapply (reached_at (F := F) (c, ix s)); iexact HR

/-- The levels are among what every step may use. -/
theorem ctx_lev : Ctx m K ⊢ levAts L lv := by
  unfold Ctx
  iintro ⟨-, #H⟩
  iexact H

/-! ## What a device holds between steps -/

/-- Device `c` has paid the first `i` of its dues. -/
def ow (c : Dev nD) (i : ℕ) : sProp 𝕄 := iprop(∃ W : Waits sig Unit, owes (c : Thread nD τ) (oweL c (payList.drop i)) W)
/-- Device `c`'s position at its semaphore `s`: no wait made yet. -/
def ps (c : Dev nD) (s : SemLoc sig) : sProp 𝕄 := atPos ER ((c : Thread nD τ), s) 0 ∅ 0
/-- Device `c` may wait for the transfer on its DMA semaphore `n`. -/
def rv (c : Dev nD) (n : Fin 38) : sProp 𝕄 :=
  iprop(ps c (dm n) ∗ cred (tallyAt ((c : Thread nD τ), dm n) () (amt (dm n))))
/-- The right to arrive, as number `p`, at device `c`'s semaphore `s`. -/
def tk (c : Dev nD) (s : SemLoc sig) (p : Fin 5) : sProp 𝕄 := dutyTok ER ((c : Thread nD τ), s) 0 p
/-- Device `c`'s semaphore `s` reads zero, and nothing will raise it. -/
def sz (c : Dev nD) (s : SemLoc sig) : sProp 𝕄 := semVal ((c : Thread nD τ), s) 0

/-- The region's loops need no variants: it has none. -/
abbrev 𝒱₀ : Variants := Variants.none

section Steps
variable {α : Type} {k : PUnit → Prog (TpuEff nD τ sig (Elt F) Λ₀ .tc) α} (c : Dev nD)

/-- An arrival at partner `p`'s barrier semaphore. -/
theorem wp_arrive {Q : α → sProp 𝕄} {n : Dev nD} {p : Fin 5} (hn : n = tgt p c) (s : Sem sig) (i : ℕ)
    (hi : payList.drop i = (p, .reg s) :: payList.drop (i + 1)) :
    iprop(Ctx m K ∗ ow c i ∗ tk (tgt p c) (.reg s) p ∗ pay m (tgt p c) (.reg s) p)
      ⊢ iprop((ow c (i + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) s 1) k) Q) := by
  subst hn
  unfold ow tk
  iintro ⟨#HC, ⟨%W, HO⟩, Ht, Hp⟩ Hk
  ihave H := (ctx_at m K (tgt p c) (.reg s) (by intro h; cases h)) $$ HC
  icases H with ⟨#HI, #HR⟩
  iapply (Rounds.wp_signal 𝒱₀ ER (rdS m) (c : Thread nD τ) none (dst := (tgt p c : Thread nD τ)) (κ := K (tgt p c, ix (.reg s)))
      (d := p) (r := 0) (by rw [duties_at]; exact Finset.mem_univ _) (amount_at m _ _ _) () (O₀ := oweL c (payList.drop i)) (oweL c (payList.drop (i + 1)))
      (by rw [hi]; rfl)) $$ [HO Ht Hp]
  · isplitr; · iexact HI
    isplitl [HO]; · iexact HO
    isplitl [Ht]; · iexact Ht
    isplitl [Hp]; · rw [payload_at]; iexact Hp
    iexact HR
  iintro HO
  iapply Hk
  iexists W
  iexact HO

/-- The wait at a barrier semaphore for all five partners: it leaves the semaphore at zero for good. -/
theorem wp_meet {Q : α → sProp 𝕄} (s : Sem sig) (i : ℕ) (hl : ∀ x ∈ payList.drop i, lvl (.reg s) < lvl x.2) :
    iprop(Ctx m K ∗ ow c i ∗ ps c (.reg s) ∗ cred (tallyAt ((c : Thread nD τ), .reg s) () 5))
      ⊢ iprop((ow c i ∗ sz c (.reg s) ∗ (bigSep Finset.univ fun p : Fin 5 => pay m c (.reg s) p)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait s 5) k) Q) := by
  unfold ow ps sz
  iintro ⟨#HC, ⟨%W, HO⟩, Hat, Hc⟩ Hk
  ihave H := (ctx_at m K c (.reg s) (by intro h; cases h)) $$ HC
  icases H with ⟨#HI, -⟩
  ihave #Hlev := (ctx_lev m K) $$ HC
  iapply (Rounds.wp_wait_rest_token 𝒱₀ ER (rdS m) (c : Thread nD τ) none (κ := K (c, ix (.reg s)))
      (wpE_semWait_eq 𝒱₀ (c : Thread nD τ) none Set.univ) (Set.mem_univ _) () (O := oweL c (payList.drop i)) (W := W) (R := 0) (m := 0) (T := ∅)
      (by rw [expect_reg])) $$ [Hc HO Hat]
  · isplitr; · iexact HI
    isplitl [Hc]; · iexact Hc
    isplitl [HO]; · iexact HO
    isplitr; · iapply (mayWait c (.reg s) _ hl); iexact Hlev
    iexact Hat
  iintro ⟨HO, Hat, -, Hpay⟩
  ihave Hp := (Entails.of_eq (rest_reg m c s)) $$ Hpay
  imod (Rounds.cell_close ER (rdS m) (Set.mem_univ (K (c, ix (.reg s)))) (fun h => h) (R := 0 + 1) (duties_later m _)) $$ [Hat] with Hz
  · isplitr; · iexact HI
    iexact Hat
  iapply Hk
  isplitl [HO]; · iexists _; iexact HO
  isplitl [Hz]; · iexact Hz
  iexact Hp

/-- The wait for a transfer: its payload arrives and its semaphore is left at zero for good. -/
theorem wp_await {Q : α → sProp 𝕄} {sp sp' : Space} {s s' : Shape} {e e' : EltTy} {src : Memref sig .tc sp' s' e'} {dst : Memref sig .tc sp s e}
    {hsrc : src.view.WordExact} {hdst : dst.view.WordExact} (n : Fin 38) (hn : n.val ≠ 0) (i : ℕ)
    (hl : ∀ x ∈ payList.drop i, lvl (dm n) < lvl x.2) (hN : dst.view.dmaCredit = amt (dm n)) :
    iprop(Ctx m K ∗ ow c i ∗ rv c n)
      ⊢ iprop((ow c i ∗ sz c (dm n) ∗ dmaPay m c n.val
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (n : DmaSem sig) src dst hsrc hdst) k) Q) := by
  unfold ow rv ps sz
  iintro ⟨#HC, ⟨%W, HO⟩, Hat, Hc⟩ Hk
  have hne : dm n ≠ .dma (0 : Fin 38) := by
    intro h; injection h with h; exact hn (congrArg Fin.val h)
  ihave H := (ctx_at m K c (dm n) hne) $$ HC
  icases H with ⟨#HI, -⟩
  ihave #Hlev := (ctx_lev m K) $$ HC
  iapply (Rounds.wp_wait_rest_token 𝒱₀ ER (rdS m) (c : Thread nD τ) none (κ := K (c, ix (dm n)))
      (wpE_waitDma2_eq 𝒱₀ (c : Thread nD τ) none Set.univ) (Set.mem_univ _) () (O := oweL c (payList.drop i)) (W := W) (R := 0) (m := 0) (T := ∅)
      (by rw [expect_dma m c n hn, hN, Nat.zero_add])) $$ [Hc HO Hat]
  · isplitr; · iexact HI
    isplitl [Hc]; · rw [hN]; iexact Hc
    isplitl [HO]; · iexact HO
    isplitr; · iapply (mayWait c (dm n) _ hl); iexact Hlev
    iexact Hat
  iintro ⟨HO, Hat, -, Hpay⟩
  ihave Hp := (Entails.of_eq (rest_dma m c n hn)) $$ Hpay
  imod (Rounds.cell_close ER (rdS m) (Set.mem_univ (K (c, ix (dm n)))) (fun h => h) (R := 0 + 1) (duties_later m _)) $$ [Hat] with Hz
  · isplitr; · iexact HI
    iexact Hat
  iapply Hk
  isplitl [HO]; · iexists _; iexact HO
  isplitl [Hz]; · iexact Hz
  iexact Hp

/-- The copy of a device's own quarter: it may then be waited for. -/
theorem wp_fetch {Q : α → sProp 𝕄} {sp sp' : Space} {s : Shape} {e : EltTy} {src : Memref sig .tc sp s e} {dst : Memref sig .tc sp' s e}
    {hsrc : src.view.WordExact} {hdst : dst.view.WordExact} (n : Fin 38) (hn : n.val ≠ 0)
    {hsem : DmaTarget.Typed (nD := nD) (τ := τ) sp (dm n) (DmaTarget.here dst : DmaTarget nD τ sig .tc sp' s e)} {q : PosShare TreeShare} {fs : Buf (Elt F) (src.view.loc (c : Thread nD τ))}
    {fd : Buf (Elt F) (dst.view.loc (c : Thread nD τ))} (hN : dst.view.dmaCredit = amt (dm n))
    (hpay : iprop((dst.view.loc (c : Thread nD τ) ↦[dst.view.set]{fullShare} (dst.view.write (Elt F) fd (src.view.read (Elt F) fs) Finset.univ))
              ∗ (src.view.loc (c : Thread nD τ) ↦[src.view.set]{q} fs)) ⊢ dmaPay m c n.val) :
    iprop(Ctx m K ∗ ps c (dm n) ∗ tk c (dm n) 0
        ∗ (src.view.loc (c : Thread nD τ) ↦[src.view.set]{q} fs) ∗ (dst.view.loc (c : Thread nD τ) ↦[dst.view.set]{fullShare} fd))
      ⊢ iprop((rv c n -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.here dst) (dm n) hsrc hdst hsem) k) Q) := by
  unfold rv ps tk
  iintro ⟨#HC, Hat, Ht, Hs, Hd⟩ Hk
  have hne : dm n ≠ .dma (0 : Fin 38) := by
    intro h; injection h with h; exact hn (congrArg Fin.val h)
  ihave H := (ctx_at m K c (dm n) hne) $$ HC
  icases H with ⟨#HI, #HR⟩
  iapply (Rounds.wp_copy_pointsTo 𝒱₀ ER (rdS m) (c : Thread nD τ) none (sem := dm n) (κ := K (c, ix (dm n))) (d := 0) (r := 0)
      (by rw [duties_at, show arrivals (dm n) = {0} from if_neg hn]; exact Finset.mem_singleton_self _) ()
      (amt (dm n)) hN (amount_at m _ _ _) hpay) $$ [Ht Hs Hd]
  · isplitr; · iexact HI
    isplitl [Hs]; · iexact Hs
    isplitl [Hd]; · iexact Hd
    isplitl [Ht]; · iexact Ht
    iexact HR
  iintro Hc
  iapply Hk
  isplitl [Hat]; · iexact Hat
  iexact Hc

/-- A send to partner `p`, whose arrival is what `c` then owed next: the source's return may then be waited for. -/
theorem wp_send {Q : α → sProp 𝕄} {s : Shape} {e : EltTy} {sp sp' : Space} {n : Dev nD} {p : Fin 5} (hn : n = tgt p c)
    {src : Memref sig .tc sp s e} {dst : Memref sig .tc sp' s e}
    {hsc : (dst : Memref sig (Dev.tc n : Thread nD τ).2.kind sp' s e).view.ref.isScScratch = false}
    {hsrc : src.view.WordExact} {hdst : dst.view.WordExact} (nS nR : Fin 38) (hS : nS.val ≠ 0) (hR : nR.val ≠ 0)
    {hsem : DmaTarget.Typed sp (dm nR) (.remote (Dev.tc n : Thread nD τ) (dst : Memref sig (Dev.tc n : Thread nD τ).2.kind sp' s e) (dm nS) hsc)}
    {q : PosShare TreeShare} {fs : Buf (Elt F) (src.view.loc (c : Thread nD τ))} {fd : Buf (Elt F) (dst.view.loc (tgt p c : Thread nD τ))}
    (i : ℕ) (hi : payList.drop i = (p, dm nR) :: payList.drop (i + 1))
    (hN : dst.view.dmaCredit = amt (dm nR)) (hNS : amt (dm nS) = amt (dm nR))
    (hpS : (src.view.loc (c : Thread nD τ) ↦[src.view.set]{q} fs) ⊢ dmaPay m c nS.val)
    (hpR : (dst.view.loc (tgt p c : Thread nD τ) ↦[dst.view.set]{fullShare} (dst.view.write (Elt F) fd (src.view.read (Elt F) fs) Finset.univ))
      ⊢ dmaPay m (tgt p c) nR.val) :
    iprop(Ctx m K ∗ ow c i ∗ (ps c (dm nS) ∗ tk c (dm nS) 0 ∗ tk (tgt p c) (dm nR) 0)
        ∗ (src.view.loc (c : Thread nD τ) ↦[src.view.set]{q} fs) ∗ (dst.view.loc (tgt p c : Thread nD τ) ↦[dst.view.set]{fullShare} fd))
      ⊢ iprop((ow c (i + 1) ∗ rv c nS -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (dm nS) hsc) (dm nR) hsrc hdst hsem) k) Q) := by
  subst hn
  unfold ow rv ps tk
  iintro ⟨#HC, ⟨%W, HO⟩, ⟨Hat, HtS, HtR⟩, Hs, Hd⟩ Hk
  have hneS : dm nS ≠ .dma (0 : Fin 38) := by
    intro h; injection h with h; exact hS (congrArg Fin.val h)
  have hneR : dm nR ≠ .dma (0 : Fin 38) := by
    intro h; injection h with h; exact hR (congrArg Fin.val h)
  ihave H := (ctx_at m K c (dm nS) hneS) $$ HC
  icases H with ⟨#HIS, #HRS⟩
  ihave H := (ctx_at m K (tgt p c) (dm nR) hneR) $$ HC
  icases H with ⟨#HIR, #HRR⟩
  iapply (Rounds.wp_send_pointsTo 𝒱₀ ER (rdS m) (c : Thread nD τ) none (c' := (tgt p c : Thread nD τ))
      (sS := dm nS) (sem := dm nR) (κ₁ := K (c, ix (dm nS))) (κ₂ := K (tgt p c, ix (dm nR)))
      (r₁ := 0) (r₂ := 0) (d₁ := 0) (d₂ := 0) (fd := fd)
      (by rw [duties_at, show arrivals (dm nS) = {0} from if_neg hS]; exact Finset.mem_singleton_self _)
      (by rw [duties_at, show arrivals (dm nR) = {0} from if_neg hR]; exact Finset.mem_singleton_self _)
      () () (amt (dm nR)) hN ((amount_at m _ _ _).trans hNS) (amount_at m _ _ _) (O₀ := oweL c (payList.drop i)) (oweL c (payList.drop (i + 1)))
      (by rw [hi]; rfl) (W := W) hpS hpR) $$ [HO HtS HtR Hs Hd]
  · isplitr; · iexact HIS
    isplitr; · iexact HIR
    isplitl [Hs]; · iexact Hs
    isplitl [Hd]; · iexact Hd
    isplitl [HO]; · iexact HO
    isplitl [HtS]; · iexact HtS
    isplitr; · iexact HRS
    isplitl [HtR]; · iexact HtR
    iexact HRR
  iintro ⟨Hc, HO⟩
  iapply Hk
  isplitl [HO]; · iexists W; iexact HO
  isplitl [Hat]; · iexact Hat
  rw [hNS]
  iexact Hc

end Steps

end Cert.KernelIdeal.AllReduce

end
-- ==== Proof.IdealGeo.lean ====
/-
Where the kernel's slices lie: which rows of which buffer each slice names, what a write through it leaves there, and how
whole buffers fall into the pieces the devices exchange and come together again.
-/
module

public import proofs.«01_k».proof.Proof.IdealSteps

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The printed offsets and devices in closed form -/

/-- The quarter that device `c` copies in starts at row `1024 (c / 4)` of its argument. -/
theorem off1_eq : ∀ c : Dev nD, k0_off1 c = ![1024 * (c.val / 4), 0] := by decide +kernel
/-- The rows that device `c` sends to the device `j + 1` up its column start at 256 times that device's place in the column. -/
theorem off2_eq : ∀ (c : Dev nD) (j : Fin 3), k0_off2 c (BitVec.ofNat 32 (1 + j.val)) = ![256 * ((c.val % 4 + (j.val + 1)) % 4), 0] := by decide +kernel
/-- Device `c` writes its own block of the result, -/
theorem off4_eq : ∀ c : Dev nD, k0_off4 c = ![256 * (zm c 0).val, 0] := by decide +kernel
/-- and sends its own block, -/
theorem off5_eq : ∀ c : Dev nD, k0_off5 c = ![256 * (zm c 0).val, 0] := by decide +kernel
/-- and receives and forwards the block of the device `j + 1` down its column, -/
theorem off6_eq : ∀ (c : Dev nD) (j : Fin 3), k0_off6 c (BitVec.ofNat 32 (1 + j.val)) = ![256 * (zm c (j.val + 1)).val, 0] := by decide +kernel
/-- then the blocks of the column across `x`, -/
theorem off7_eq : ∀ (c : Dev nD) (j : Fin 4), k0_off7 c (BitVec.ofNat 32 j.val) = ![256 * (zm (xn c) j.val).val, 0] := by decide +kernel
/-- and of the column across `y`. -/
theorem off8_eq : ∀ (c : Dev nD) (j : Fin 4), k0_off8 c (BitVec.ofNat 32 j.val) = ![256 * (zm (yn c) j.val).val, 0] := by decide +kernel

/-- Printed target 1 is partner number 0. -/
theorem dev1_eq : ∀ c : Dev nD, (⟨k0_dev1 c, k0_dev1_lt c⟩ : Dev nD) = tgt 0 c := by decide +kernel
/-- Printed target 2 is partner number 1. -/
theorem dev2_eq : ∀ c : Dev nD, (⟨k0_dev2 c, k0_dev2_lt c⟩ : Dev nD) = tgt 1 c := by decide +kernel
/-- Printed target 3 is partner number 2. -/
theorem dev3_eq : ∀ c : Dev nD, (⟨k0_dev3 c, k0_dev3_lt c⟩ : Dev nD) = tgt 2 c := by decide +kernel
/-- Printed target 4 is partner number 3. -/
theorem dev4_eq : ∀ c : Dev nD, (⟨k0_dev4 c, k0_dev4_lt c⟩ : Dev nD) = tgt 3 c := by decide +kernel
/-- Printed target 5 is partner number 4. -/
theorem dev5_eq : ∀ c : Dev nD, (⟨k0_dev5 c, k0_dev5_lt c⟩ : Dev nD) = tgt 4 c := by decide +kernel
/-- Printed target 6 is partner number 0. -/
theorem dev6_eq : ∀ c : Dev nD, (⟨k0_dev6 c, k0_dev6_lt c⟩ : Dev nD) = tgt 0 c := by decide +kernel
/-- Printed target 7 is partner number 1. -/
theorem dev7_eq : ∀ c : Dev nD, (⟨k0_dev7 c, k0_dev7_lt c⟩ : Dev nD) = tgt 1 c := by decide +kernel
/-- Printed target 8 is partner number 2. -/
theorem dev8_eq : ∀ c : Dev nD, (⟨k0_dev8 c, k0_dev8_lt c⟩ : Dev nD) = tgt 2 c := by decide +kernel
/-- Printed target 9 is partner number 0. -/
theorem dev9_eq : ∀ c : Dev nD, (⟨k0_dev9 c, k0_dev9_lt c⟩ : Dev nD) = tgt 0 c := by decide +kernel
/-- Printed target 10 is partner number 1. -/
theorem dev10_eq : ∀ c : Dev nD, (⟨k0_dev10 c, k0_dev10_lt c⟩ : Dev nD) = tgt 1 c := by decide +kernel
/-- Printed target 11 is partner number 2. -/
theorem dev11_eq : ∀ c : Dev nD, (⟨k0_dev11 c, k0_dev11_lt c⟩ : Dev nD) = tgt 2 c := by decide +kernel
/-- Printed target 12 is partner number 3. -/
theorem dev12_eq : ∀ c : Dev nD, (⟨k0_dev12 c, k0_dev12_lt c⟩ : Dev nD) = tgt 3 c := by decide +kernel
/-- Printed target 13 is partner number 4. -/
theorem dev13_eq : ∀ c : Dev nD, (⟨k0_dev13 c, k0_dev13_lt c⟩ : Dev nD) = tgt 4 c := by decide +kernel
/-- Printed target 14 is partner number 3. -/
theorem dev14_eq : ∀ c : Dev nD, (⟨k0_dev14 c, k0_dev14_lt c⟩ : Dev nD) = tgt 3 c := by decide +kernel
/-- Printed target 15 is partner number 4. -/
theorem dev15_eq : ∀ c : Dev nD, (⟨k0_dev15 c, k0_dev15_lt c⟩ : Dev nD) = tgt 4 c := by decide +kernel
/-- Printed target 16 is partner number 3. -/
theorem dev16_eq : ∀ c : Dev nD, (⟨k0_dev16 c, k0_dev16_lt c⟩ : Dev nD) = tgt 3 c := by decide +kernel
/-- Printed target 17 is partner number 4. -/
theorem dev17_eq : ∀ c : Dev nD, (⟨k0_dev17 c, k0_dev17_lt c⟩ : Dev nD) = tgt 4 c := by decide +kernel
/-- Printed target 18 is partner number 3. -/
theorem dev18_eq : ∀ c : Dev nD, (⟨k0_dev18 c, k0_dev18_lt c⟩ : Dev nD) = tgt 3 c := by decide +kernel
/-- Printed target 19 is partner number 4. -/
theorem dev19_eq : ∀ c : Dev nD, (⟨k0_dev19 c, k0_dev19_lt c⟩ : Dev nD) = tgt 4 c := by decide +kernel
/-- Printed target 20 is partner number 4. -/
theorem dev20_eq : ∀ c : Dev nD, (⟨k0_dev20 c, k0_dev20_lt c⟩ : Dev nD) = tgt 4 c := by decide +kernel
/-- Printed target 21 is partner number 4. -/
theorem dev21_eq : ∀ c : Dev nD, (⟨k0_dev21 c, k0_dev21_lt c⟩ : Dev nD) = tgt 4 c := by decide +kernel
/-- Printed target 22 is partner number 3. -/
theorem dev22_eq : ∀ c : Dev nD, (⟨k0_dev22 c, k0_dev22_lt c⟩ : Dev nD) = tgt 3 c := by decide +kernel
/-- Printed target 23 is partner number 3. -/
theorem dev23_eq : ∀ c : Dev nD, (⟨k0_dev23 c, k0_dev23_lt c⟩ : Dev nD) = tgt 3 c := by decide +kernel
/-- Printed target 24 is partner number 0. -/
theorem dev24_eq : ∀ c : Dev nD, (⟨k0_dev24 c, k0_dev24_lt c⟩ : Dev nD) = tgt 0 c := by decide +kernel
/-- Printed target 25 is partner number 1. -/
theorem dev25_eq : ∀ c : Dev nD, (⟨k0_dev25 c, k0_dev25_lt c⟩ : Dev nD) = tgt 1 c := by decide +kernel
/-- Printed target 26 is partner number 2. -/
theorem dev26_eq : ∀ c : Dev nD, (⟨k0_dev26 c, k0_dev26_lt c⟩ : Dev nD) = tgt 2 c := by decide +kernel
/-- Printed target 27 is partner number 3. -/
theorem dev27_eq : ∀ c : Dev nD, (⟨k0_dev27 c, k0_dev27_lt c⟩ : Dev nD) = tgt 3 c := by decide +kernel
/-- Printed target 28 is partner number 4. -/
theorem dev28_eq : ∀ c : Dev nD, (⟨k0_dev28 c, k0_dev28_lt c⟩ : Dev nD) = tgt 4 c := by decide +kernel

/-- No place down the column is the device itself. -/
theorem zm_zero (c : Dev nD) : zm c 0 = c := by revert c; decide

/-! ## The slices -/

section Slices
variable {off : Fin 2 → ℕ}

/-- A 256-row slice of the result's staging buffer. -/
abbrev outM (inb : ∀ a, off a + S256x1024.size a ≤ S4096x1024.size a) : Memref sig .tc .vmem S256x1024 .bf16 :=
  (Memref.whole cc0_stg0_0 : Memref sig .tc .vmem S4096x1024 .bf16).slice (Rect.unit (s := S4096x1024) off S256x1024.size inb) (fun _ => rfl)

/-- A 256-row slice of the result at row `256 r` is block `r`. -/
theorem outM_set (inb : ∀ a, off a + S256x1024.size a ≤ S4096x1024.size a) {r : Dev nD} (h : off = ![256 * r.val, 0]) :
    (outM inb).view.set = blk r.val := by
  subst h
  refine (View.set_slice_whole (cc0_stg0_0 : Ref sig .tc) _).trans ?_
  ext i
  rw [Rect.mem_set_unit]
  unfold blk
  rw [Finset.mem_filter]
  have h1 : (i 1).val < 1024 := (i 1).isLt
  constructor
  · intro h
    have h0 : 256 * r.val ≤ (i 0).val ∧ (i 0).val < 256 * r.val + 256 := h 0
    exact ⟨Finset.mem_univ _, by omega⟩
  · rintro ⟨-, h⟩ a
    match a with
    | ⟨0, _⟩ => exact (show 256 * r.val ≤ (i 0).val ∧ (i 0).val < 256 * r.val + 256 by omega)
    | ⟨1, _⟩ => exact ⟨Nat.zero_le _, (show (i 1).val < 0 + 1024 by omega)⟩

/-- Block `r` of the result is what device `r` sums. -/
theorem outV_at (r : Dev nD) (i : S4096x1024.Idx) (j : S256x1024.Idx) (h0 : (i 0).val = 256 * r.val + (j 0).val) (h1 : (i 1).val = (j 1).val) :
    outV m i = redV m r j := by
  have hj : (j 0).val < 256 := (j 0).isLt
  unfold outV
  have hr : (⟨(i 0).val / 256, by have h : (i 0).val < 4096 := (i 0).isLt; show _ < 16; omega⟩ : Dev nD) = r :=
    Fin.ext (show (i 0).val / 256 = r.val by omega)
  rw [hr]
  refine congrArg (redV m r) (funext fun a => ?_)
  match a with
  | ⟨0, _⟩ => exact Fin.ext (show (i 0).val % 256 = (j 0).val by omega)
  | ⟨1, _⟩ => exact Fin.ext h1

/-- Block `r` written with what device `r` sums. -/
theorem wrote_red (inb : ∀ a, off a + S256x1024.size a ≤ S4096x1024.size a) {r : Dev nD} (h : off = ![256 * r.val, 0]) (c : Dev nD)
    (fd : (cc0_stg0_0 : Ref sig .tc).ty.Contents (Elt F)) :
    ((((c : Thread nD τ).loc cc0_stg0_0) ↦[(outM inb).view.set]{fullShare} ((outM inb).view.write (Elt F) fd (redV m r) Finset.univ)) : sProp 𝕄)
      = ob m c r fullShare := by
  unfold ob
  rw [← outM_set inb h]
  refine pointsTo_congr fun i hi => ?_
  obtain ⟨j, -, rfl⟩ := Finset.mem_map.mp hi
  rw [View.write_emb_of_mem _ _ (Finset.mem_univ j)]
  subst h
  exact (outV_at m r _ j (show 256 * r.val + 1 * (j 0).val = _ by omega) (show 0 + 1 * (j 1).val = _ by omega)).symm

/-- Block `r` written with block `r` of the result. -/
theorem wrote_out (inb : ∀ a, off a + S256x1024.size a ≤ S4096x1024.size a) {r : Dev nD} (h : off = ![256 * r.val, 0]) (c : Dev nD)
    (fd : (cc0_stg0_0 : Ref sig .tc).ty.Contents (Elt F)) :
    ((((c : Thread nD τ).loc cc0_stg0_0) ↦[(outM inb).view.set]{fullShare}
        ((outM inb).view.write (Elt F) fd ((outM inb).view.read (Elt F) (outV m)) Finset.univ)) : sProp 𝕄) = ob m c r fullShare := by
  unfold ob
  rw [← outM_set inb h]
  refine pointsTo_congr fun i hi => ?_
  obtain ⟨j, -, rfl⟩ := Finset.mem_map.mp hi
  rw [View.write_emb_of_mem _ _ (Finset.mem_univ j)]
  rfl

/-- A 256-row slice of the rounded quarter. -/
abbrev xbM (inb : ∀ a, off a + S256x1024.size a ≤ S1024x1024.size a) : Memref sig .tc .vmem S256x1024 .bf16 :=
  (Memref.whole cc0_scratch1 : Memref sig .tc .vmem S1024x1024 .bf16).slice (Rect.unit (s := S1024x1024) off S256x1024.size inb) (fun _ => rfl)

/-- A 256-row slice of the rounded quarter at row `256 k` is its row block `k`. -/
theorem xbM_set (inb : ∀ a, off a + S256x1024.size a ≤ S1024x1024.size a) {k : ℕ} (h : off = ![256 * k, 0]) :
    (xbM inb).view.set = xrows k := by
  subst h
  refine (View.set_slice_whole (cc0_scratch1 : Ref sig .tc) _).trans ?_
  ext i
  rw [Rect.mem_set_unit]
  unfold xrows
  rw [Finset.mem_filter]
  have h1 : (i 1).val < 1024 := (i 1).isLt
  constructor
  · intro h
    have h0 : 256 * k ≤ (i 0).val ∧ (i 0).val < 256 * k + 256 := h 0
    exact ⟨Finset.mem_univ _, by omega⟩
  · rintro ⟨-, h⟩ a
    match a with
    | ⟨0, _⟩ => exact (show 256 * k ≤ (i 0).val ∧ (i 0).val < 256 * k + 256 by omega)
    | ⟨1, _⟩ => exact ⟨Nat.zero_le _, (show (i 1).val < 0 + 1024 by omega)⟩

end Slices

/-- A slot of the receive buffer. -/
abbrev slM {off : Fin 3 → ℕ} (inb : ∀ a, off a + S1x256x1024.size a ≤ S3x256x1024.size a) : Memref sig .tc .vmem S256x1024 .bf16 :=
  ((Memref.whole cc0_scratch3 : Memref sig .tc .vmem S3x256x1024 .bf16).slice (Rect.unit (s := S3x256x1024) off S1x256x1024.size inb) (fun _ => rfl)).squeeze
    S256x1024 squeezes_S1x256x1024_S256x1024

/-- The receive buffer's slot as loads name it. -/
theorem slot_set {off : Fin 3 → ℕ} (inb : ∀ a, off a + S1x256x1024.size a ≤ S3x256x1024.size a) {k : ℕ} (h : off = ![k, 0, 0]) :
    (Rect.unit (s := S3x256x1024) off S1x256x1024.size inb).set = slot k := by
  subst h
  ext i
  rw [Rect.mem_set_unit]
  unfold slot
  rw [Finset.mem_filter]
  have h1 : (i 1).val < 256 := (i 1).isLt
  have h2 : (i 2).val < 1024 := (i 2).isLt
  constructor
  · intro h
    have h0 : k ≤ (i 0).val ∧ (i 0).val < k + 1 := h 0
    exact ⟨Finset.mem_univ _, by omega⟩
  · rintro ⟨-, h⟩ a
    match a with
    | ⟨0, _⟩ => exact (show k ≤ (i 0).val ∧ (i 0).val < k + 1 by omega)
    | ⟨1, _⟩ => exact ⟨Nat.zero_le _, (show (i 1).val < 0 + 256 by omega)⟩
    | ⟨2, _⟩ => exact ⟨Nat.zero_le _, (show (i 2).val < 0 + 1024 by omega)⟩

/-- The slice of the receive buffer at slot `k`, its unit axis dropped, is slot `k`. -/
theorem slM_set {off : Fin 3 → ℕ} (inb : ∀ a, off a + S1x256x1024.size a ≤ S3x256x1024.size a) {k : ℕ} (h : off = ![k, 0, 0]) :
    (slM inb).view.set = slot k :=
  (View.set_reshape _ _).trans ((View.set_slice_whole (cc0_scratch3 : Ref sig .tc) _).trans (slot_set inb h))

/-- Slot `j` of the device `j + 1` up the column, written with its rows of the sender's rounded quarter. -/
theorem wrote_slot {off : Fin 2 → ℕ} (inb : ∀ a, off a + S256x1024.size a ≤ S1024x1024.size a) {offs : Fin 3 → ℕ}
    (inbs : ∀ a, offs a + S1x256x1024.size a ≤ S3x256x1024.size a) (c t : Dev nD) (j : Fin 3)
    (h : off = ![256 * ((c.val % 4 + (j.val + 1)) % 4), 0]) (hs : offs = ![j.val, 0, 0])
    (ht : zm t (j.val + 1) = c) (htc : t.val % 4 = (c.val % 4 + (j.val + 1)) % 4)
    (fd : (cc0_scratch3 : Ref sig .tc).ty.Contents (Elt F)) :
    ((((t : Thread nD τ).loc cc0_scratch3) ↦[(slM inbs).view.set]{fullShare}
        ((slM inbs).view.write (Elt F) fd ((xbM inb).view.read (Elt F) (xbV m c)) Finset.univ)) : sProp 𝕄) = sr m t j.val := by
  unfold sr
  rw [← slM_set inbs hs]
  refine pointsTo_congr fun i hi => ?_
  obtain ⟨y, -, rfl⟩ := Finset.mem_map.mp hi
  rw [View.write_emb_of_mem _ _ (Finset.mem_univ y)]
  subst h hs
  have hy : Shape.reshapeEquiv squeezes_S1x256x1024_S256x1024.numel_eq y = (Fin.cons ⟨0, Nat.one_pos⟩ y : S1x256x1024.Idx) :=
    Shape.reshapeEquiv_cons_one _ y
  have he : (slM inbs).view.emb y = (Rect.unit (s := S3x256x1024) ![j.val, 0, 0] S1x256x1024.size inbs).emb (Fin.cons ⟨0, Nat.one_pos⟩ y : S1x256x1024.Idx) := by
    rw [← hy]; rfl
  rw [he]
  have e0 : (((Rect.unit (s := S3x256x1024) ![j.val, 0, 0] S1x256x1024.size inbs).emb (Fin.cons ⟨0, Nat.one_pos⟩ y : S1x256x1024.Idx)) 0).val = j.val := rfl
  have e1 : (((Rect.unit (s := S3x256x1024) ![j.val, 0, 0] S1x256x1024.size inbs).emb (Fin.cons ⟨0, Nat.one_pos⟩ y : S1x256x1024.Idx)) 1).val = (y 0).val :=
    (show 0 + 1 * (y 0).val = _ by omega)
  have e2 : (((Rect.unit (s := S3x256x1024) ![j.val, 0, 0] S1x256x1024.size inbs).emb (Fin.cons ⟨0, Nat.one_pos⟩ y : S1x256x1024.Idx)) 2).val = (y 1).val :=
    (show 0 + 1 * (y 1).val = _ by omega)
  unfold rsV
  show xbV m c _ = _
  have hz : zm t ((((Rect.unit (s := S3x256x1024) ![j.val, 0, 0] S1x256x1024.size inbs).emb (Fin.cons ⟨0, Nat.one_pos⟩ y : S1x256x1024.Idx)) 0).val + 1) = c := by
    rw [e0]; exact ht
  rw [hz]
  refine congrArg (xbV m c) (funext fun a => ?_)
  match a with
  | ⟨0, _⟩ =>
    refine Fin.ext ?_
    show 256 * ((c.val % 4 + (j.val + 1)) % 4) + 1 * (y 0).val = 256 * (t.val % 4) + (((Rect.unit (s := S3x256x1024) ![j.val, 0, 0] S1x256x1024.size inbs).emb (Fin.cons ⟨0, Nat.one_pos⟩ y : S1x256x1024.Idx)) 1).val
    rw [e1, htc]; omega
  | ⟨1, _⟩ =>
    refine Fin.ext ?_
    show 0 + 1 * (y 1).val = (((Rect.unit (s := S3x256x1024) ![j.val, 0, 0] S1x256x1024.size inbs).emb (Fin.cons ⟨0, Nat.one_pos⟩ y : S1x256x1024.Idx)) 2).val
    rw [e2]; omega

/-- The copied quarter is read off the argument. -/
theorem read_arg (c : Dev nD) : (argM c).view.read (Elt F) (X m c) = xqV m c := by
  funext i
  refine congrArg (X m c) (funext fun a => ?_)
  have h := off1_eq c
  match a with
  | ⟨0, _⟩ =>
    refine Fin.ext ?_
    show k0_off1 c 0 + 1 * (i 0).val = 1024 * (c.val / 4) + (i 0).val
    rw [h]; show 1024 * (c.val / 4) + 1 * (i 0).val = _; omega
  | ⟨1, _⟩ =>
    refine Fin.ext ?_
    show k0_off1 c 1 + 1 * (i 1).val = (i 1).val
    rw [h]; show 0 + 1 * (i 1).val = _; omega

/-! ## Whole buffers and their pieces -/

/-- The blocks of device `c`'s result, those it gives away and keeps first. -/
def giveOrder (c : Dev nD) : List (Dev nD) :=
  [zm c 0, zp c 1, zp c 2, zp c 3, zm (xn c) 0, zm (xn c) 1, zm (xn c) 2, zm (xn c) 3, zm (yn (xn c)) 2, zm (yn (xn c)) 3,
   zm (yn c) 0, zm (yn c) 1, zm (yn c) 2, zm (yn c) 3, zm (xn (yn c)) 0, zm (xn (yn c)) 1]
/-- The same blocks in the order they come back. -/
def getOrder (c : Dev nD) : List (Dev nD) :=
  [zm c 0, zm c 1, zm c 2, zm c 3, zm (xn c) 0, zm (xn c) 1, zm (xn c) 2, zm (xn c) 3,
   zm (yn c) 0, zm (yn c) 1, zm (yn c) 2, zm (yn c) 3, zm (xn (yn c)) 0, zm (xn (yn c)) 1, zm (xn (yn c)) 2, zm (xn (yn c)) 3]
/-- Each block is given away or kept once, -/
theorem giveOrder_all : ∀ c : Dev nD, (Finset.univ : Finset (Dev nD)) = (giveOrder c).toFinset ∧ (giveOrder c).Nodup := by decide +kernel
/-- and comes back once. -/
theorem getOrder_all : ∀ c : Dev nD, (Finset.univ : Finset (Dev nD)) = (getOrder c).toFinset ∧ (getOrder c).Nodup := by decide +kernel

/-- Different blocks of a result share no element, -/
theorem blk_disjoint (r r' : Dev nD) (h : r ≠ r') : Disjoint (blk r.val) (blk r'.val) := by
  unfold blk
  refine Finset.disjoint_left.mpr fun i hi hi' => h (Fin.ext ?_)
  exact (Finset.mem_filter.mp hi).2.symm.trans (Finset.mem_filter.mp hi').2
/-- and the sixteen blocks are all of it. -/
theorem blk_cover : (Finset.univ.biUnion fun r : Dev nD => blk r.val) = Finset.univ := by
  refine Finset.eq_univ_of_forall fun i => Finset.mem_biUnion.mpr ?_
  have h : (i 0).val < 4096 := (i 0).isLt
  exact ⟨⟨(i 0).val / 256, by show _ < 16; omega⟩, Finset.mem_univ _, Finset.mem_filter.mpr ⟨Finset.mem_univ _, rfl⟩⟩

/-- A block at some contents is a block at whatever it holds. -/
theorem oa_intro (c r : Dev nD) (f : Buf (Elt F) ((c : Thread nD τ).loc cc0_stg0_0)) :
    ((((c : Thread nD τ).loc cc0_stg0_0) ↦[blk r.val]{fullShare} f) : sProp 𝕄) ⊢ oa (F := F) c r := by
  unfold oa
  iintro H
  iexists f
  iexact H

/-- A result's staging buffer at any contents falls into its blocks. -/
theorem out_split (c : Dev nD) (f : Buf (Elt F) ((c : Thread nD τ).loc cc0_stg0_0)) :
    ((((c : Thread nD τ).loc cc0_stg0_0) ↦{fullShare} f) : sProp 𝕄) ⊢ bigSepL (giveOrder c) fun r => oa (F := F) c r := by
  have h : ((((c : Thread nD τ).loc cc0_stg0_0) ↦{fullShare} f) : sProp 𝕄)
      = bigSep Finset.univ fun r : Dev nD => (((c : Thread nD τ).loc cc0_stg0_0) ↦[blk r.val]{fullShare} f) :=
    Ring.pointsTo_blocks (ℓ := (c : Thread nD τ).loc cc0_stg0_0) (fun r : Dev nD => blk r.val) blk_disjoint blk_cover f
  have h2 : (bigSep Finset.univ fun r : Dev nD => (((c : Thread nD τ).loc cc0_stg0_0) ↦[blk r.val]{fullShare} f) : sProp 𝕄)
      ⊢ bigSep Finset.univ fun r : Dev nD => oa (F := F) c r := bigSep_mono fun r _ => oa_intro c r f
  have h3 : (bigSep Finset.univ fun r : Dev nD => oa (F := F) c r) = bigSepL (giveOrder c) fun r => oa (F := F) c r :=
    bigSep_univ_eq_bigSepL (giveOrder c) (giveOrder_all c).1 (giveOrder_all c).2 _
  exact ((Entails.of_eq h).trans h2).trans (Entails.of_eq h3)

/-- The blocks, all summed, are the whole result. -/
theorem out_join (c : Dev nD) :
    (bigSepL (getOrder c) fun r => ob m c r fullShare) ⊢ ((((c : Thread nD τ).loc cc0_stg0_0) ↦{fullShare} outV m) : sProp 𝕄) := by
  rw [← bigSep_univ_eq_bigSepL (getOrder c) (getOrder_all c).1 (getOrder_all c).2]
  have h : ((((c : Thread nD τ).loc cc0_stg0_0) ↦{fullShare} (outV m : Buf (Elt F) ((c : Thread nD τ).loc cc0_stg0_0))) : sProp 𝕄)
      = bigSep Finset.univ fun r : Dev nD => ob m c r fullShare :=
    Ring.pointsTo_blocks (ℓ := (c : Thread nD τ).loc cc0_stg0_0) (fun r : Dev nD => blk r.val) blk_disjoint blk_cover (outV m)
  exact Entails.of_eq h.symm

/-- A block of the result in two shares. -/
theorem ob_halves (c r : Dev nD) : ob m c r fullShare ⊣⊢ iprop(ob m c r fullShare.left ∗ ob m c r fullShare.right) :=
  pointsTo_share (PosShare.mem_left_op_right fullShare)

/-- The row blocks of the rounded quarter, counted up from the device's own, share no element, -/
theorem xrows_disjoint (c : Dev nD) (o o' : Fin 4) (h : o ≠ o') : Disjoint (xrows ((c.val % 4 + o.val) % 4)) (xrows ((c.val % 4 + o'.val) % 4)) := by
  unfold xrows
  refine Finset.disjoint_left.mpr fun i hi hi' => h (Fin.ext ?_)
  have := (Finset.mem_filter.mp hi).2.symm.trans (Finset.mem_filter.mp hi').2
  have h1 := o.isLt
  have h2 := o'.isLt
  omega
/-- and are all of it. -/
theorem xrows_cover (c : Dev nD) : (Finset.univ.biUnion fun o : Fin 4 => xrows ((c.val % 4 + o.val) % 4)) = Finset.univ := by
  refine Finset.eq_univ_of_forall fun i => Finset.mem_biUnion.mpr ?_
  have h : (i 0).val < 1024 := (i 0).isLt
  exact ⟨⟨((i 0).val / 256 + (4 - c.val % 4)) % 4, Nat.mod_lt _ (by decide)⟩, Finset.mem_univ _,
    Finset.mem_filter.mpr ⟨Finset.mem_univ _, (show (i 0).val / 256 = (c.val % 4 + ((i 0).val / 256 + (4 - c.val % 4)) % 4) % 4 by omega)⟩⟩

/-- Four things side by side, written out; -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- three; -/
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The rounded quarter is its four row blocks. -/
theorem xb_blocks (c : Dev nD) :
    ((((c : Thread nD τ).loc cc0_scratch1) ↦{fullShare} xbV m c) : sProp 𝕄) = iprop(xb m c 0 ∗ xb m c 1 ∗ xb m c 2 ∗ xb m c 3) := by
  have h : ((((c : Thread nD τ).loc cc0_scratch1) ↦{fullShare} (xbV m c : Buf (Elt F) ((c : Thread nD τ).loc cc0_scratch1))) : sProp 𝕄)
      = bigSep Finset.univ fun o : Fin 4 => xb m c o.val :=
    Ring.pointsTo_blocks (ℓ := (c : Thread nD τ).loc cc0_scratch1) (fun o : Fin 4 => xrows ((c.val % 4 + o.val) % 4)) (xrows_disjoint c) (xrows_cover c) (xbV m c)
  exact h.trans (bigSep_fin4 _)

/-- Different slots of the receive buffer share no element, -/
theorem slot_disjoint (o o' : Fin 3) (h : o ≠ o') : Disjoint (slot o.val) (slot o'.val) := by
  unfold slot
  refine Finset.disjoint_left.mpr fun i hi hi' => h (Fin.ext ?_)
  exact (Finset.mem_filter.mp hi).2.symm.trans (Finset.mem_filter.mp hi').2
/-- and the three slots are all of it. -/
theorem slot_cover : (Finset.univ.biUnion fun o : Fin 3 => slot o.val) = Finset.univ := by
  refine Finset.eq_univ_of_forall fun i => Finset.mem_biUnion.mpr ?_
  exact ⟨⟨(i 0).val, (i 0).isLt⟩, Finset.mem_univ _, Finset.mem_filter.mpr ⟨Finset.mem_univ _, rfl⟩⟩

/-- The receive buffer at any contents falls into its slots, -/
theorem slots_split (c : Dev nD) (f : Buf (Elt F) ((c : Thread nD τ).loc cc0_scratch3)) :
    ((((c : Thread nD τ).loc cc0_scratch3) ↦{fullShare} f) : sProp 𝕄) ⊢ iprop(sa (F := F) c 0 ∗ sa (F := F) c 1 ∗ sa (F := F) c 2) := by
  rw [Ring.pointsTo_blocks (fun o : Fin 3 => slot o.val) slot_disjoint slot_cover f, bigSep_fin3]
  unfold sa
  iintro ⟨H0, H1, H2⟩
  isplitl [H0]; · iexists f; iexact H0
  isplitl [H1]; · iexists f; iexact H1
  iexists f; iexact H2
/-- and the received slots are the whole buffer. -/
theorem slots_join (c : Dev nD) :
    iprop(sr m c 0 ∗ sr m c 1 ∗ sr m c 2) ⊢ ((((c : Thread nD τ).loc cc0_scratch3) ↦{fullShare} rsV m c) : sProp 𝕄) := by
  have h : ((((c : Thread nD τ).loc cc0_scratch3) ↦{fullShare} (rsV m c : Buf (Elt F) ((c : Thread nD τ).loc cc0_scratch3))) : sProp 𝕄)
      = bigSep Finset.univ fun o : Fin 3 => sr m c o.val :=
    Ring.pointsTo_blocks (ℓ := (c : Thread nD τ).loc cc0_scratch3) (fun o : Fin 3 => slot o.val) slot_disjoint slot_cover (rsV m c)
  exact Entails.of_eq (h.trans (bigSep_fin3 _)).symm

/-- The summed block in its three shares. -/
theorem rd_shares (c : Dev nD) : rd m c fullShare ⊣⊢ iprop(rd m c (shr 0) ∗ rd m c (shr 1) ∗ rd m c (shr 2)) := by
  have h1 : rd m c fullShare ⊣⊢ iprop(rd m c fullShare.left ∗ rd m c fullShare.right) := pointsTo_share (PosShare.mem_left_op_right fullShare)
  have h2 : rd m c fullShare.right ⊣⊢ iprop(rd m c fullShare.right.left ∗ rd m c fullShare.right.right) :=
    pointsTo_share (PosShare.mem_left_op_right fullShare.right)
  exact ⟨h1.1.trans (sep_mono_right h2.1), (sep_mono_right h2.2).trans h1.2⟩

end Cert.KernelIdeal.AllReduce

end
-- ==== Proof.IdealSends.lean ====
/-
The kernel's three kinds of send, each stated over the pieces it moves: rows of the rounded quarter into a slot, the summed
block into its place in a result, and a block of a result into its place in another's.
-/
module

public import proofs.«01_k».proof.Proof.IdealGeo

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 39 → ℕ)

/-- What a send to partner `p` uses up: the position and the token of its own semaphore `nS`, the token of the partner's `nR`. -/
def snd (c : Dev nD) (p : Fin 5) (nS nR : Fin 38) : sProp 𝕄 := iprop(ps c (dm nS) ∗ tk c (dm nS) 0 ∗ tk (tgt p c) (dm nR) 0)

section Sends
variable {α : Type} {k : PUnit → Prog (TpuEff nD τ sig (Elt F) Λ₀ .tc) α} (c : Dev nD)

/-- A block of the result sent to the same place in partner `p`'s. -/
theorem wp_send_ob {Q : α → sProp 𝕄} {n : Dev nD} {p : Fin 5} (hn : n = tgt p c) {off : Fin 2 → ℕ}
    {inb : ∀ a, off a + S256x1024.size a ≤ S4096x1024.size a} {r : Dev nD} (hoff : off = ![256 * r.val, 0]) (nS nR : Fin 38) (q : PosShare TreeShare)
    {hsc : ((outM inb) : Memref sig (Dev.tc n : Thread nD τ).2.kind .vmem S256x1024 .bf16).view.ref.isScScratch = false}
    {hsrc hdst : (outM inb).view.WordExact}
    {hsem : DmaTarget.Typed .vmem (dm nR) (.remote (Dev.tc n : Thread nD τ) ((outM inb) : Memref sig (Dev.tc n : Thread nD τ).2.kind .vmem S256x1024 .bf16) (dm nS) hsc)}
    (i : ℕ) (hi : payList.drop i = (p, dm nR) :: payList.drop (i + 1)) (hS : nS.val ≠ 0) (hR : nR.val ≠ 0)
    (hNS : amt (dm nS) = NB) (hNR : amt (dm nR) = NB)
    (hpS : ob m c r q = dmaPay m c nS.val) (hpR : ob m (tgt p c) r fullShare = dmaPay m (tgt p c) nR.val) :
    iprop(Ctx m K ∗ ow c i ∗ snd c p nS nR ∗ ob m c r q ∗ oa (tgt p c) r)
      ⊢ iprop((ow c (i + 1) ∗ rv c nS -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (outM inb) (.remote (Dev.tc n : Thread nD τ) (outM inb) (dm nS) hsc) (dm nR) hsrc hdst hsem) k) Q) := by
  have e : ob m c r q = (((c : Thread nD τ).loc cc0_stg0_0) ↦[(outM inb).view.set]{q} outV m : sProp 𝕄) := by
    rw [outM_set inb hoff]; rfl
  unfold snd oa
  iintro ⟨#HC, HO, Hs, Hr, ⟨%fd, Hd⟩⟩ Hk
  ihave Hr := (Entails.of_eq e) $$ Hr
  iapply (wp_send m K c hn (src := outM inb) (dst := outM inb) nS nR hS hR (q := q) (fs := outV m) (fd := fd) i hi (hNR.symm ▸ rfl) (hNS.trans hNR.symm)
      (Entails.of_eq (e.symm.trans hpS)) (Entails.of_eq ((wrote_out m inb hoff (tgt p c) fd).trans hpR))) $$ [HO Hs Hr Hd]
  · isplitr; · iexact HC
    isplitl [HO]; · iexact HO
    isplitl [Hs]; · iexact Hs
    isplitl [Hr]; · iexact Hr
    rw [outM_set inb hoff]
    iexact Hd
  iexact Hk

/-- The summed block sent to its place in partner `p`'s result. -/
theorem wp_send_rd {Q : α → sProp 𝕄} {n : Dev nD} {p : Fin 5} (hn : n = tgt p c) {off : Fin 2 → ℕ}
    {inb : ∀ a, off a + S256x1024.size a ≤ S4096x1024.size a} (hoff : off = ![256 * (zm c 0).val, 0]) (nS nR : Fin 38) (q : PosShare TreeShare)
    {hsc : ((outM inb) : Memref sig (Dev.tc n : Thread nD τ).2.kind .vmem S256x1024 .bf16).view.ref.isScScratch = false}
    {hsrc : (Memref.whole cc0_scratch2 : Memref sig .tc .vmem S256x1024 .bf16).view.WordExact} {hdst : (outM inb).view.WordExact}
    {hsem : DmaTarget.Typed .vmem (dm nR) (.remote (Dev.tc n : Thread nD τ) ((outM inb) : Memref sig (Dev.tc n : Thread nD τ).2.kind .vmem S256x1024 .bf16) (dm nS) hsc)}
    (i : ℕ) (hi : payList.drop i = (p, dm nR) :: payList.drop (i + 1)) (hS : nS.val ≠ 0) (hR : nR.val ≠ 0)
    (hNS : amt (dm nS) = NB) (hNR : amt (dm nR) = NB)
    (hpS : rd m c q = dmaPay m c nS.val) (hpR : ob m (tgt p c) (zm c 0) fullShare = dmaPay m (tgt p c) nR.val) :
    iprop(Ctx m K ∗ ow c i ∗ snd c p nS nR ∗ rd m c q ∗ oa (tgt p c) (zm c 0))
      ⊢ iprop((ow c (i + 1) ∗ rv c nS -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (Memref.whole cc0_scratch2 : Memref sig .tc .vmem S256x1024 .bf16) (.remote (Dev.tc n : Thread nD τ) (outM inb) (dm nS) hsc) (dm nR) hsrc hdst hsem) k) Q) := by
  have e : rd m c q = (((c : Thread nD τ).loc cc0_scratch2) ↦[(Memref.whole cc0_scratch2 : Memref sig .tc .vmem S256x1024 .bf16).view.set]{q} redV m c : sProp 𝕄) := by
    rw [show (Memref.whole cc0_scratch2 : Memref sig .tc .vmem S256x1024 .bf16).view.set = Finset.univ from View.set_whole _]; rfl
  have e2 : redV m (zm c 0) = redV m c := by rw [zm_zero]
  have e3 := wrote_red m inb hoff (tgt p c)
  rw [e2] at e3
  unfold snd oa
  iintro ⟨#HC, HO, Hs, Hr, ⟨%fd, Hd⟩⟩ Hk
  ihave Hr := (Entails.of_eq e) $$ Hr
  iapply (wp_send m K c hn (src := (Memref.whole cc0_scratch2 : Memref sig .tc .vmem S256x1024 .bf16)) (dst := outM inb) nS nR hS hR (q := q) (fs := redV m c) (fd := fd) i hi
      (hNR.symm ▸ rfl) (hNS.trans hNR.symm) (Entails.of_eq (e.symm.trans hpS)) (Entails.of_eq ((e3 fd).trans hpR))) $$ [HO Hs Hr Hd]
  · isplitr; · iexact HC
    isplitl [HO]; · iexact HO
    isplitl [Hs]; · iexact Hs
    isplitl [Hr]; · iexact Hr
    rw [outM_set inb hoff]
    iexact Hd
  iexact Hk

/-- The rows of the rounded quarter that belong to the device `j + 1` up the column, sent into its slot `j`. -/
theorem wp_send_xb {Q : α → sProp 𝕄} {n : Dev nD} {p : Fin 5} (hn : n = tgt p c) (j : Fin 3) {off : Fin 2 → ℕ}
    {inb : ∀ a, off a + S256x1024.size a ≤ S1024x1024.size a} {offs : Fin 3 → ℕ} {inbs : ∀ a, offs a + S1x256x1024.size a ≤ S3x256x1024.size a}
    (hoff : off = ![256 * ((c.val % 4 + (j.val + 1)) % 4), 0]) (hoffs : offs = ![j.val, 0, 0]) (nS nR : Fin 38)
    {hsc : ((slM inbs) : Memref sig (Dev.tc n : Thread nD τ).2.kind .vmem S256x1024 .bf16).view.ref.isScScratch = false}
    {hsrc : (xbM inb).view.WordExact} {hdst : (slM inbs).view.WordExact}
    {hsem : DmaTarget.Typed .vmem (dm nR) (.remote (Dev.tc n : Thread nD τ) ((slM inbs) : Memref sig (Dev.tc n : Thread nD τ).2.kind .vmem S256x1024 .bf16) (dm nS) hsc)}
    (i : ℕ) (hi : payList.drop i = (p, dm nR) :: payList.drop (i + 1)) (hS : nS.val ≠ 0) (hR : nR.val ≠ 0)
    (hNS : amt (dm nS) = NB) (hNR : amt (dm nR) = NB) (ht : zm (tgt p c) (j.val + 1) = c) (htc : (tgt p c).val % 4 = (c.val % 4 + (j.val + 1)) % 4)
    (hpS : xb m c (j.val + 1) = dmaPay m c nS.val) (hpR : sr m (tgt p c) j.val = dmaPay m (tgt p c) nR.val) :
    iprop(Ctx m K ∗ ow c i ∗ snd c p nS nR ∗ xb m c (j.val + 1) ∗ sa (tgt p c) j.val)
      ⊢ iprop((ow c (i + 1) ∗ rv c nS -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (xbM inb) (.remote (Dev.tc n : Thread nD τ) (slM inbs) (dm nS) hsc) (dm nR) hsrc hdst hsem) k) Q) := by
  have e : xb m c (j.val + 1) = (((c : Thread nD τ).loc cc0_scratch1) ↦[(xbM inb).view.set]{fullShare} xbV m c : sProp 𝕄) := by
    rw [xbM_set inb hoff]; rfl
  unfold snd sa
  iintro ⟨#HC, HO, Hs, Hr, ⟨%fd, Hd⟩⟩ Hk
  ihave Hr := (Entails.of_eq e) $$ Hr
  iapply (wp_send m K c hn (src := xbM inb) (dst := slM inbs) nS nR hS hR (q := fullShare) (fs := xbV m c) (fd := fd) i hi (hNR.symm ▸ rfl) (hNS.trans hNR.symm)
      (Entails.of_eq (e.symm.trans hpS)) (Entails.of_eq ((wrote_slot m inb inbs c (tgt p c) j hoff hoffs ht htc fd).trans hpR))) $$ [HO Hs Hr Hd]
  · isplitr; · iexact HC
    isplitl [HO]; · iexact HO
    isplitl [Hs]; · iexact Hs
    isplitl [Hr]; · iexact Hr
    rw [slM_set inbs hoffs]
    iexact Hd
  iexact Hk

end Sends

end Cert.KernelIdeal.AllReduce

end
-- ==== Proof.IdealLines.lean ====
/-
The kernel's operations one by one, as they are written: what each takes of a device's resources and what it leaves.
-/
module

public import proofs.«01_k».proof.Proof.IdealSends

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

universe u

variable {F : FTy → Type} [FloatOps F]

local notation "𝕄" => MT nD τ sig Unit (Elt F) ℕ UU ℕ

variable (m : (ℓ : Loc nD τ sig) → Buf (Elt F) ℓ) (K : Dev nD × Fin 39 → ℕ)

/-! ## Premises one at a time -/

/-- A rule with three premises, taken one at a time; -/
theorem curry3 {A B C D : sProp 𝕄} (h : iprop(A ∗ B ∗ C) ⊢ D) : A ⊢ iprop(B -∗ C -∗ D) := by
  iintro HA HB HC
  iapply h
  isplitl [HA]; · iexact HA
  isplitl [HB]; · iexact HB
  iexact HC

/-- with four; -/
theorem curry4 {A B C D E : sProp 𝕄} (h : iprop(A ∗ B ∗ C ∗ D) ⊢ E) : A ⊢ iprop(B -∗ C -∗ D -∗ E) := by
  iintro HA HB HC HD
  iapply h
  isplitl [HA]; · iexact HA
  isplitl [HB]; · iexact HB
  isplitl [HC]; · iexact HC
  iexact HD

/-- with five. -/
theorem curry5 {A B C D E G : sProp 𝕄} (h : iprop(A ∗ B ∗ C ∗ D ∗ E) ⊢ G) : A ⊢ iprop(B -∗ C -∗ D -∗ E -∗ G) := by
  iintro HA HB HC HD HE
  iapply h
  isplitl [HA]; · iexact HA
  isplitl [HB]; · iexact HB
  isplitl [HC]; · iexact HC
  isplitl [HD]; · iexact HD
  iexact HE

/-- A printed piece at the kernel's buffers and semaphores. -/
abbrev args {β : Type u} (f : (arg0 : Memref sig .tc .hbm S4096x1024 .f32) → arg0.IsWhole → (arg1 : Memref sig .tc .vmem S4096x1024 .bf16) → arg1.IsWhole →
    (arg2 : Memref sig .tc .vmem S1024x1024 .f32) → arg2.IsWhole → (arg3 : Memref sig .tc .vmem S1024x1024 .bf16) → arg3.IsWhole →
    (arg4 : Memref sig .tc .vmem S256x1024 .bf16) → arg4.IsWhole → (arg5 : Memref sig .tc .vmem S3x256x1024 .bf16) → arg5.IsWhole →
    DmaSems sig S_ → DmaSems sig S3 → DmaSems sig S3 → DmaSems sig S3 → DmaSems sig S3 → DmaSems sig S4 → DmaSems sig S4 → DmaSems sig S4 →
    DmaSems sig S4 → DmaSems sig S2 → DmaSems sig S2 → DmaSems sig S2 → DmaSems sig S2 → Sems sig S_ → β) : β :=
  f (Memref.whole main_arg0) (Memref.isWhole_whole _) (Memref.whole cc0_stg0_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scratch12 cc0_scratch13 cc0_scratch14
    cc0_scratch15 cc0_scratch16 cc0_scoped0

/-- Device `c`'s program `e` meets `Q`. -/
abbrev WP {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- Every 256 × 1024 bf16 destination's transfer counts the same. -/
theorem credit_NB (dst : Memref sig .tc .vmem S256x1024 .bf16) : dst.view.dmaCredit = NB := rfl

section Lines
variable {α : Type} (c : Dev nD)

/-! ## The single operations -/

/-- The wait for one block. -/
theorem await {Q : α → sProp 𝕄} {sp' : Space} {s' : Shape} {e' : EltTy} {src : Memref sig .tc sp' s' e'} {dst : Memref sig .tc .vmem S256x1024 .bf16}
    {hsrc : src.view.WordExact} {hdst : dst.view.WordExact} {k : PUnit → Prog (TpuEff nD τ sig (Elt F) Λ₀ .tc) α} (n : Fin 38) {s : DmaSem sig} (i : ℕ)
    (P : sProp 𝕄) (hP : dmaPay m c n.val = P) (h1 : 1 < n.val) (hl : ∀ x ∈ payList.drop i, lvl (dm n) < lvl x.2) (hs : s = n) :
    Ctx m K ⊢ iprop(ow c i -∗ rv c n -∗ (ow c i ∗ sz c (dm n) ∗ P -∗ WP c (k ⟨⟩) Q) -∗ WP c (.op (.waitDma2 s src dst hsrc hdst) k) Q) := by
  subst hs hP
  exact curry3 (wp_await m K c s (by omega) i hl ((credit_NB dst).trans (if_neg (by omega)).symm))

/-- A block of the result sent on. -/
theorem send {Q : α → sProp 𝕄} {n : Dev nD} {p : Fin 5} (hn : n = tgt p c) {off : Fin 2 → ℕ}
    {inb : ∀ a, off a + S256x1024.size a ≤ S4096x1024.size a} (r : Dev nD) (nS nR : Fin 38) (q : PosShare TreeShare) {sS sR : DmaSem sig}
    {hsc : ((outM inb) : Memref sig (Dev.tc n : Thread nD τ).2.kind .vmem S256x1024 .bf16).view.ref.isScScratch = false}
    {hsrc hdst : (outM inb).view.WordExact} {k : PUnit → Prog (TpuEff nD τ sig (Elt F) Λ₀ .tc) α}
    {hsem : DmaTarget.Typed .vmem (.dma sR) (.remote (Dev.tc n : Thread nD τ) ((outM inb) : Memref sig (Dev.tc n : Thread nD τ).2.kind .vmem S256x1024 .bf16) (.dma sS) hsc)}
    (i : ℕ) (hi : payList.drop i = (p, dm nR) :: payList.drop (i + 1)) (hS : 1 < nS.val) (hR : 1 < nR.val)
    (hpS : ob m c r q = dmaPay m c nS.val) (hpR : ob m (tgt p c) r fullShare = dmaPay m (tgt p c) nR.val)
    (hoff : off = ![256 * r.val, 0]) (hs : sS = nS ∧ sR = nR) :
    Ctx m K ⊢ iprop(ow c i -∗ snd c p nS nR -∗ ob m c r q -∗ oa (tgt p c) r -∗ (ow c (i + 1) ∗ rv c nS -∗ WP c (k ⟨⟩) Q)
      -∗ WP c (.op (.enqueueDma (outM inb) (.remote (Dev.tc n : Thread nD τ) (outM inb) (.dma sS) hsc) (.dma sR) hsrc hdst hsem) k) Q) := by
  obtain ⟨rfl, rfl⟩ := hs
  exact curry5 (wp_send_ob m K c hn hoff sS sR q i hi (by omega) (by omega) (if_neg (by omega)) (if_neg (by omega)) hpS hpR)

/-- The summed block sent to the device `j + 1` up the column. -/
theorem sendSum {Q : α → sProp 𝕄} {n : Dev nD} {p : Fin 5} (hn : n = tgt p c) (j : ℕ) {off : Fin 2 → ℕ}
    {inb : ∀ a, off a + S256x1024.size a ≤ S4096x1024.size a} (nS nR : Fin 38) {sS sR : DmaSem sig}
    {hsc : ((outM inb) : Memref sig (Dev.tc n : Thread nD τ).2.kind .vmem S256x1024 .bf16).view.ref.isScScratch = false}
    {hsrc : (Memref.whole cc0_scratch2 : Memref sig .tc .vmem S256x1024 .bf16).view.WordExact} {hdst : (outM inb).view.WordExact}
    {k : PUnit → Prog (TpuEff nD τ sig (Elt F) Λ₀ .tc) α}
    {hsem : DmaTarget.Typed .vmem (.dma sR) (.remote (Dev.tc n : Thread nD τ) ((outM inb) : Memref sig (Dev.tc n : Thread nD τ).2.kind .vmem S256x1024 .bf16) (.dma sS) hsc)}
    (i : ℕ) (hi : payList.drop i = (p, dm nR) :: payList.drop (i + 1)) (hS : 1 < nS.val) (hR : 1 < nR.val)
    (hpS : rd m c (shr j) = dmaPay m c nS.val) (hpR : ob m (tgt p c) (zm c 0) fullShare = dmaPay m (tgt p c) nR.val)
    (hoff : off = ![256 * (zm c 0).val, 0]) (hs : sS = nS ∧ sR = nR) :
    Ctx m K ⊢ iprop(ow c i -∗ snd c p nS nR -∗ rd m c (shr j) -∗ oa (tgt p c) (zm c 0) -∗ (ow c (i + 1) ∗ rv c nS -∗ WP c (k ⟨⟩) Q)
      -∗ WP c (.op (.enqueueDma (Memref.whole cc0_scratch2 : Memref sig .tc .vmem S256x1024 .bf16) (.remote (Dev.tc n : Thread nD τ) (outM inb) (.dma sS) hsc) (.dma sR) hsrc hdst hsem) k) Q) := by
  obtain ⟨rfl, rfl⟩ := hs
  exact curry5 (wp_send_rd m K c hn hoff sS sR (shr j) i hi (by omega) (by omega) (if_neg (by omega)) (if_neg (by omega)) hpS hpR)

/-- Rows of the rounded quarter sent to the device `j + 1` up the column, which owns them. -/
theorem sendRows {Q : α → sProp 𝕄} {n : Dev nD} {p : Fin 5} (hn : n = tgt p c) (j : ℕ) (hj : j < 3) {off : Fin 2 → ℕ}
    {inb : ∀ a, off a + S256x1024.size a ≤ S1024x1024.size a} {offs : Fin 3 → ℕ} {inbs : ∀ a, offs a + S1x256x1024.size a ≤ S3x256x1024.size a}
    (nS nR : Fin 38) {sS sR : DmaSem sig}
    {hsc : ((slM inbs) : Memref sig (Dev.tc n : Thread nD τ).2.kind .vmem S256x1024 .bf16).view.ref.isScScratch = false}
    {hsrc : (xbM inb).view.WordExact} {hdst : (slM inbs).view.WordExact} {k : PUnit → Prog (TpuEff nD τ sig (Elt F) Λ₀ .tc) α}
    {hsem : DmaTarget.Typed .vmem (.dma sR) (.remote (Dev.tc n : Thread nD τ) ((slM inbs) : Memref sig (Dev.tc n : Thread nD τ).2.kind .vmem S256x1024 .bf16) (.dma sS) hsc)}
    (i : ℕ) (hi : payList.drop i = (p, dm nR) :: payList.drop (i + 1)) (hS : 1 < nS.val) (hR : 1 < nR.val)
    (ht : zm (tgt p c) (j + 1) = c) (htc : (tgt p c).val % 4 = (c.val % 4 + (j + 1)) % 4)
    (hpS : xb m c (j + 1) = dmaPay m c nS.val) (hpR : sr m (tgt p c) j = dmaPay m (tgt p c) nR.val)
    (hoff : off = ![256 * ((c.val % 4 + (j + 1)) % 4), 0]) (hoffs : offs = ![j, 0, 0]) (hs : sS = nS ∧ sR = nR) :
    Ctx m K ⊢ iprop(ow c i -∗ snd c p nS nR -∗ xb m c (j + 1) -∗ sa (tgt p c) j -∗ (ow c (i + 1) ∗ rv c nS -∗ WP c (k ⟨⟩) Q)
      -∗ WP c (.op (.enqueueDma (xbM inb) (.remote (Dev.tc n : Thread nD τ) (slM inbs) (.dma sS) hsc) (.dma sR) hsrc hdst hsem) k) Q) := by
  obtain ⟨rfl, rfl⟩ := hs
  exact curry5 (wp_send_xb m K c hn ⟨j, hj⟩ hoff hoffs sS sR i hi (by omega) (by omega) (if_neg (by omega)) (if_neg (by omega)) ht htc hpS hpR)

/-- What device `c` hands its partner `p` at the entry barrier: the right to write what that partner will send it. -/
def gv (p : Fin 5) : sProp 𝕄 :=
  match p with
  | 0 => iprop(sa c 2 ∗ oa c (zp c 1))
  | 1 => iprop(sa c 1 ∗ oa c (zp c 2))
  | 2 => iprop(sa c 0 ∗ oa c (zp c 3))
  | 3 => iprop(oa c (zm (xn c) 0) ∗ oa c (zm (xn c) 1) ∗ oa c (zm (xn c) 2) ∗ oa c (zm (xn c) 3) ∗ oa c (zm (yn (xn c)) 2) ∗ oa c (zm (yn (xn c)) 3))
  | 4 => iprop(oa c (zm (yn c) 0) ∗ oa c (zm (yn c) 1) ∗ oa c (zm (yn c) 2) ∗ oa c (zm (yn c) 3) ∗ oa c (zm (xn (yn c)) 0) ∗ oa c (zm (xn (yn c)) 1))

/-- The partner one up has this device three up; its own block is the one the device gives it the right to write, -/
theorem tgt_back0 : ∀ c : Dev nD, tgt 2 (tgt 0 c) = c ∧ zm (tgt 0 c) 0 = zp c 1 := by decide
/-- the partner two up has it two up, -/
theorem tgt_back1 : ∀ c : Dev nD, tgt 1 (tgt 1 c) = c ∧ zm (tgt 1 c) 0 = zp c 2 := by decide
/-- and the partner three up has it one up. -/
theorem tgt_back2 : ∀ c : Dev nD, tgt 0 (tgt 2 c) = c ∧ zm (tgt 2 c) 0 = zp c 3 := by decide

/-- What a device hands a partner is what that partner is handed. -/
theorem gv_eq (p : Fin 5) : gv (F := F) c p = barPay (tgt p c) p :=
  match p with
  | 0 => by
    show iprop(sa c 2 ∗ oa c (zp c 1)) = iprop(sa (tgt 2 (tgt 0 c)) 2 ∗ oa (tgt 2 (tgt 0 c)) (zm (tgt 0 c) 0))
    rw [(tgt_back0 c).1, (tgt_back0 c).2]
  | 1 => by
    show iprop(sa c 1 ∗ oa c (zp c 2)) = iprop(sa (tgt 1 (tgt 1 c)) 1 ∗ oa (tgt 1 (tgt 1 c)) (zm (tgt 1 c) 0))
    rw [(tgt_back1 c).1, (tgt_back1 c).2]
  | 2 => by
    show iprop(sa c 0 ∗ oa c (zp c 3)) = iprop(sa (tgt 0 (tgt 2 c)) 0 ∗ oa (tgt 0 (tgt 2 c)) (zm (tgt 2 c) 0))
    rw [(tgt_back2 c).1, (tgt_back2 c).2]
  | 3 => by
    show gv c 3 = barPay (xn c) 3
    unfold gv barPay
    rw [xn_xn]
  | 4 => by
    show gv c 4 = barPay (yn c) 4
    unfold gv barPay
    rw [yn_yn]

/-- An arrival at partner `p`'s entry barrier. -/
theorem enter {Q : α → sProp 𝕄} {n : Dev nD} {p : Fin 5} (hn : n = tgt p c) {s : Sem sig} {k : PUnit → Prog (TpuEff nD τ sig (Elt F) Λ₀ .tc) α} (i : ℕ)
    (hi : payList.drop i = (p, .reg 0) :: payList.drop (i + 1)) (hs : s = (0 : Fin 2)) :
    Ctx m K ⊢ iprop(ow c i -∗ tk (tgt p c) (.reg (0 : Fin 2)) p -∗ gv c p -∗ (ow c (i + 1) -∗ WP c (k ⟨⟩) Q)
      -∗ WP c (.op (.semSignal (n : Thread nD τ) s 1) k) Q) := by
  subst hs
  rw [gv_eq]
  exact curry4 (wp_arrive m K c hn (0 : Fin 2) i hi)

/-- An arrival at partner `p`'s exit barrier. -/
theorem leave {Q : α → sProp 𝕄} {n : Dev nD} {p : Fin 5} (hn : n = tgt p c) {s : Sem sig} {k : PUnit → Prog (TpuEff nD τ sig (Elt F) Λ₀ .tc) α} (i : ℕ)
    (hi : payList.drop i = (p, .reg 1) :: payList.drop (i + 1)) (hs : s = (1 : Fin 2)) :
    Ctx m K ⊢ iprop(ow c i -∗ tk (tgt p c) (.reg (1 : Fin 2)) p -∗ (ow c (i + 1) -∗ WP c (k ⟨⟩) Q)
      -∗ WP c (.op (.semSignal (n : Thread nD τ) s 1) k) Q) := by
  subst hs
  have e : pay m (tgt p c) (.reg (1 : Fin 2)) p = iprop(emp) := rfl
  have h := curry4 (wp_arrive (Q := Q) (k := k) m K c hn (1 : Fin 2) i hi)
  rw [e] at h
  iintro #HC HO Ht
  iapply h $$ HC HO Ht
  iempintro

/-- Device `c` may wait for its five partners at its barrier semaphore `s`. -/
def mt (s : Sem sig) : sProp 𝕄 := iprop(ps c (.reg s) ∗ cred (tallyAt ((c : Thread nD τ), .reg s) () 5))

/-- The wait for the five partners at the entry barrier. -/
theorem entered {Q : α → sProp 𝕄} {s : Sem sig} {k : PUnit → Prog (TpuEff nD τ sig (Elt F) Λ₀ .tc) α} (hs : s = (0 : Fin 2)) :
    Ctx m K ⊢ iprop(ow c 5 -∗ mt c (0 : Fin 2) -∗ (ow c 5 ∗ sz c (.reg (0 : Fin 2)) ∗ barPay c 0 ∗ barPay c 1 ∗ barPay c 2 ∗ barPay c 3 ∗ barPay c 4 -∗ WP c (k ⟨⟩) Q)
      -∗ WP c (.op (.semWait s 5) k) Q) := by
  subst hs
  have h := curry3 (wp_meet (Q := Q) (k := k) m K c (0 : Fin 2) 5 (by decide))
  rw [bigSep_fin5] at h
  exact h

/-- The wait for the five partners at the exit barrier. -/
theorem left {Q : α → sProp 𝕄} {s : Sem sig} {k : PUnit → Prog (TpuEff nD τ sig (Elt F) Λ₀ .tc) α} (hs : s = (1 : Fin 2)) :
    Ctx m K ⊢ iprop(ow c 28 -∗ mt c (1 : Fin 2) -∗ (ow c 28 ∗ sz c (.reg (1 : Fin 2)) -∗ WP c (k ⟨⟩) Q)
      -∗ WP c (.op (.semWait s 5) k) Q) := by
  subst hs
  have h := curry3 (wp_meet (Q := Q) (k := k) m K c (1 : Fin 2) 28 (by decide))
  unfold mt
  iintro #HC HO Hm Hk
  iapply h $$ HC HO Hm
  iintro ⟨HO, Hz, -⟩
  iapply Hk
  iframe

/-- The buffer of a device's own quarter at whatever it holds, -/
def qa : sProp 𝕄 := iprop(∃ f : Buf (Elt F) ((c : Thread nD τ).loc cc0_scratch0), ((c : Thread nD τ).loc cc0_scratch0) ↦{fullShare} f)
/-- the buffer of the rounded quarter, -/
def ra : sProp 𝕄 := iprop(∃ f : Buf (Elt F) ((c : Thread nD τ).loc cc0_scratch1), ((c : Thread nD τ).loc cc0_scratch1) ↦{fullShare} f)
/-- and the buffer of the summed block. -/
def da : sProp 𝕄 := iprop(∃ f : Buf (Elt F) ((c : Thread nD τ).loc cc0_scratch2), ((c : Thread nD τ).loc cc0_scratch2) ↦{fullShare} f)

/-- The landed copy of the quarter, with the rows of the argument it read, is what its semaphore hands over. -/
theorem fetch_pay (fd : Buf (Elt F) ((c : Thread nD τ).loc cc0_scratch0)) :
    iprop((((c : Thread nD τ).loc cc0_scratch0) ↦{fullShare} ((Memref.whole cc0_scratch0 : Memref sig .tc .vmem S1024x1024 .f32).view.write (Elt F) fd ((argM c).view.read (Elt F) (X m c)) Finset.univ))
      ∗ xa m c) = dmaPay m c 1 := by
  have e : (Memref.whole cc0_scratch0 : Memref sig .tc .vmem S1024x1024 .f32).view.write (Elt F) fd ((argM c).view.read (Elt F) (X m c)) Finset.univ = xqV m c := by
    rw [read_arg]
    exact View.write_whole_univ cc0_scratch0 fd (xqV m c)
  rw [e]
  rfl

/-- The copy of a device's own quarter. -/
theorem fetch {Q : α → sProp 𝕄} {s : DmaSem sig} {hsrc : (argM c).view.WordExact} {hdst : (Memref.whole cc0_scratch0 : Memref sig .tc .vmem S1024x1024 .f32).view.WordExact}
    {hsem : DmaTarget.Typed (nD := nD) (τ := τ) .hbm (.dma s) (DmaTarget.here (Memref.whole cc0_scratch0) : DmaTarget nD τ sig .tc .vmem S1024x1024 .f32)}
    {k : PUnit → Prog (TpuEff nD τ sig (Elt F) Λ₀ .tc) α} (hs : s = (1 : Fin 38)) :
    Ctx m K ⊢ iprop((ps c (dm 1) ∗ tk c (dm 1) 0) -∗ xa m c -∗ qa c -∗ (rv c 1 -∗ WP c (k ⟨⟩) Q)
      -∗ WP c (.op (.enqueueDma (argM c) (.here (Memref.whole cc0_scratch0 : Memref sig .tc .vmem S1024x1024 .f32)) (.dma s) hsrc hdst hsem) k) Q) := by
  subst hs
  have hset : (Memref.whole cc0_scratch0 : Memref sig .tc .vmem S1024x1024 .f32).view.set = Finset.univ := View.set_whole _
  unfold qa
  iintro #HC ⟨Hat, Ht⟩ Hs ⟨%f, Hd⟩ Hk
  iapply (wp_fetch m K c (src := argM c) (dst := (Memref.whole cc0_scratch0 : Memref sig .tc .vmem S1024x1024 .f32)) 1 (by decide) (q := fullShare) (fs := X m c) (fd := f) rfl
    (by rw [hset]; exact Entails.of_eq (fetch_pay m c f))) $$ [Hat Ht Hs Hd]
  · isplitr; · iexact HC
    isplitl [Hat]; · iexact Hat
    isplitl [Ht]; · iexact Ht
    isplitl [Hs]; · unfold xa; iexact Hs
    rw [hset]
    iexact Hd
  iexact Hk

/-- The wait for that copy. -/
theorem fetched {Q : α → sProp 𝕄} {s : DmaSem sig} {hsrc : (argM c).view.WordExact} {hdst : (Memref.whole cc0_scratch0 : Memref sig .tc .vmem S1024x1024 .f32).view.WordExact}
    {k : PUnit → Prog (TpuEff nD τ sig (Elt F) Λ₀ .tc) α} (i : ℕ) (hl : ∀ x ∈ payList.drop i, lvl (dm 1) < lvl x.2) (hs : s = (1 : Fin 38)) :
    Ctx m K ⊢ iprop(ow c i -∗ rv c 1 -∗ (ow c i ∗ sz c (dm 1) ∗ xq m c ∗ xa m c -∗ WP c (k ⟨⟩) Q)
      -∗ WP c (.op (.waitDma2 s (argM c) (Memref.whole cc0_scratch0 : Memref sig .tc .vmem S1024x1024 .f32) hsrc hdst) k) Q) := by
  subst hs
  exact curry3 (wp_await m K c 1 (by decide) i hl rfl)

end Lines

end Cert.KernelIdeal.AllReduce

end
-- ==== Proof.IdealParts.lean ====
/-
The kernel's printed pieces, in program order: what each takes of a device's resources and what it leaves.
-/
module

public import proofs.«01_k».proof.Proof.IdealLines

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 39 → ℕ)

/-- Across `x` and back: a block of the neighbour's result, named from the neighbour; -/
theorem xn_back (c : Dev nD) (r : ℕ) : ob m (xn c) (zm c r) fullShare = ob m (xn c) (zm (xn (xn c)) r) fullShare := by rw [xn_xn]
/-- across `y` and back; -/
theorem yn_back (c : Dev nD) (r : ℕ) : ob m (yn c) (zm c r) fullShare = ob m (yn c) (zm (yn (yn c)) r) fullShare := by rw [yn_yn]
/-- a block that came across `x`, sent on across `y`; -/
theorem xy_back (c : Dev nD) (r : ℕ) : ob m (yn c) (zm (xn c) r) fullShare = ob m (yn c) (zm (xn (yn (yn c))) r) fullShare := by rw [yn_yn]
/-- and one that came across `y`, sent on across `x`. -/
theorem yx_back (c : Dev nD) (r : ℕ) : ob m (xn c) (zm (yn c) r) fullShare = ob m (xn c) (zm (xn (yn (xn c))) r) fullShare := by rw [xn_yn_xn]
/-- The device one up finds this one one down, and lies at the next place of the column; -/
theorem col_back0 : ∀ c : Dev nD, zm (tgt 0 c) 1 = c ∧ (tgt 0 c).val % 4 = (c.val % 4 + 1) % 4 := by decide
/-- likewise two up, -/
theorem col_back1 : ∀ c : Dev nD, zm (tgt 1 c) 2 = c ∧ (tgt 1 c).val % 4 = (c.val % 4 + 2) % 4 := by decide
/-- and three up. -/
theorem col_back2 : ∀ c : Dev nD, zm (tgt 2 c) 3 = c ∧ (tgt 2 c).val % 4 = (c.val % 4 + 3) % 4 := by decide
/-- The device's own block, sent one up, is there the block of the device one down; -/
theorem sum_back0 (c : Dev nD) : ob m (tgt 0 c) (zm c 0) fullShare = ob m (tgt 0 c) (zm (tgt 0 c) 1) fullShare := by rw [(col_back0 c).1, zm_zero]
/-- sent two up, of the device two down; -/
theorem sum_back1 (c : Dev nD) : ob m (tgt 1 c) (zm c 0) fullShare = ob m (tgt 1 c) (zm (tgt 1 c) 2) fullShare := by rw [(col_back1 c).1, zm_zero]
/-- sent three up, of the device three down. -/
theorem sum_back2 (c : Dev nD) : ob m (tgt 2 c) (zm c 0) fullShare = ob m (tgt 2 c) (zm (tgt 2 c) 3) fullShare := by rw [(col_back2 c).1, zm_zero]

section Parts
variable {α : Type} (c : Dev nD)

/-- The next device up the column is sent its rows. -/
theorem part4 {Q : α → sProp 𝕄} (w0 w1 w2 w3 w4 w5 : _) {k : _ → Prog (TpuEff nD τ sig (Elt F) Λ₀ .tc) α} :
    Ctx m K ⊢ iprop(ow c 5 -∗ snd c 0 2 5 -∗ xb m c 1 -∗ sa (tgt 0 c) 0
      -∗ (∀ r, ow c 6 ∗ rv c 2 -∗ WP c (k r) Q)
      -∗ WP c (args (k0_part4 (F := F)) c w0 w1 w2 w3 w4 w5 >>= k) Q) := by
  rw [k0_part4_eq_skeleton]
  unfold k0_part4_skel
  simp only [semSignalWord, semWaitWord, Prog.lift, Prog.bind_op, Prog.bind_ret, Prog.pure_eq_ret]
  iintro #HC HO S2 B0 D2 Hk
  iapply (sendRows m K c (dev6_eq c) 0 (by decide) 2 5 5 rfl (by decide) (by decide) (col_back0 c).1 (col_back0 c).2 rfl rfl (off2_eq c 0) rfl ?_) $$ HC HO S2 B0 D2
  · exact ⟨rfl, rfl⟩
  iintro ⟨HO, R2⟩
  iapply Hk
  iframe

/-- So is the second device up, -/
theorem part5 {Q : α → sProp 𝕄} (w0 w1 w2 w3 : _) {k : _ → Prog (TpuEff nD τ sig (Elt F) Λ₀ .tc) α} :
    Ctx m K ⊢ iprop(ow c 6 -∗ snd c 1 3 6 -∗ xb m c 2 -∗ sa (tgt 1 c) 1
      -∗ (∀ r, ow c 7 ∗ rv c 3 -∗ WP c (k r) Q)
      -∗ WP c (args (k0_part5 (F := F)) c w0 w1 w2 w3 >>= k) Q) := by
  rw [k0_part5_eq_skeleton]
  unfold k0_part5_skel
  simp only [semSignalWord, semWaitWord, Prog.lift, Prog.bind_op, Prog.bind_ret, Prog.pure_eq_ret]
  iintro #HC HO S3 B1 D3 Hk
  iapply (sendRows m K c (dev7_eq c) 1 (by decide) 3 6 6 rfl (by decide) (by decide) (col_back1 c).1 (col_back1 c).2 rfl rfl (off2_eq c 1) rfl ?_) $$ HC HO S3 B1 D3
  · exact ⟨rfl, rfl⟩
  iintro ⟨HO, R3⟩
  iapply Hk
  iframe

/-- and the third; rows arrive from the first and the second device down. -/
theorem part6 {Q : α → sProp 𝕄} (w0 w1 w2 w3 : _) {k : _ → Prog (TpuEff nD τ sig (Elt F) Λ₀ .tc) α} :
    Ctx m K ⊢ iprop(ow c 7 -∗ snd c 2 4 7 -∗ xb m c 3 -∗ sa (tgt 2 c) 2 -∗ rv c 5 -∗ rv c 6
      -∗ (∀ r, ow c 8 ∗ rv c 4 ∗ sz c (dm 5) ∗ sr m c 0 ∗ sz c (dm 6) ∗ sr m c 1 -∗ WP c (k r) Q)
      -∗ WP c (args (k0_part6 (F := F)) c w0 w1 w2 w3 >>= k) Q) := by
  rw [k0_part6_eq_skeleton]
  unfold k0_part6_skel
  simp only [semSignalWord, semWaitWord, Prog.lift, Prog.bind_op, Prog.bind_ret, Prog.pure_eq_ret]
  iintro #HC HO S4 B2 D4 R5 R6 Hk
  iapply (sendRows m K c (dev8_eq c) 2 (by decide) 4 7 7 rfl (by decide) (by decide) (col_back2 c).1 (col_back2 c).2 rfl rfl (off2_eq c 2) rfl ?_) $$ HC HO S4 B2 D4
  · exact ⟨rfl, rfl⟩
  iintro ⟨HO, R4⟩
  iapply (await m K c 5 8 (sr m c 0) rfl (by decide) (by decide) ?_) $$ HC HO R5
  · rfl
  iintro ⟨HO, Z5, P5⟩
  iapply (await m K c 6 8 (sr m c 1) rfl (by decide) (by decide) ?_) $$ HC HO R6
  · rfl
  iintro ⟨HO, Z6, P6⟩
  iapply Hk
  iframe

/-- The summed block goes to the next device up the column, -/
theorem part8 {Q : α → sProp 𝕄} (w0 w1 w2 w3 : _) {k : _ → Prog (TpuEff nD τ sig (Elt F) Λ₀ .tc) α} :
    Ctx m K ⊢ iprop(ow c 8 -∗ snd c 0 8 11 -∗ rd m c (shr 0) -∗ oa (tgt 0 c) (zm c 0)
      -∗ (∀ r, ow c 9 ∗ rv c 8 -∗ WP c (k r) Q)
      -∗ WP c (args (k0_part8 (F := F)) c w0 w1 w2 w3 >>= k) Q) := by
  rw [k0_part8_eq_skeleton]
  unfold k0_part8_skel
  simp only [semSignalWord, semWaitWord, Prog.lift, Prog.bind_op, Prog.bind_ret, Prog.pure_eq_ret]
  iintro #HC HO S8 B0 D8 Hk
  iapply (sendSum m K c (dev9_eq c) 0 8 11 8 rfl (by decide) (by decide) rfl (sum_back0 m c) (off5_eq c) ?_) $$ HC HO S8 B0 D8
  · exact ⟨rfl, rfl⟩
  iintro ⟨HO, R8⟩
  iapply Hk
  iframe

/-- and to the two others. -/
theorem part9 {Q : α → sProp 𝕄} (w0 w1 w2 w3 w4 w5 : _) {k : _ → Prog (TpuEff nD τ sig (Elt F) Λ₀ .tc) α} :
    Ctx m K ⊢ iprop(ow c 9 -∗ snd c 1 9 12 -∗ rd m c (shr 1) -∗ oa (tgt 1 c) (zm c 0) -∗ snd c 2 10 13 -∗ rd m c (shr 2) -∗ oa (tgt 2 c) (zm c 0)
      -∗ (∀ r, ow c 11 ∗ rv c 9 ∗ rv c 10 -∗ WP c (k r) Q)
      -∗ WP c (args (k0_part9 (F := F)) c w0 w1 w2 w3 w4 w5 >>= k) Q) := by
  rw [k0_part9_eq_skeleton]
  unfold k0_part9_skel
  simp only [semSignalWord, semWaitWord, Prog.lift, Prog.bind_op, Prog.bind_ret, Prog.pure_eq_ret]
  iintro #HC HO S9 B1 D9 S10 B2 D10 Hk
  iapply (sendSum m K c (dev10_eq c) 1 9 12 9 rfl (by decide) (by decide) rfl (sum_back1 m c) (off5_eq c) ?_) $$ HC HO S9 B1 D9
  · exact ⟨rfl, rfl⟩
  iintro ⟨HO, R9⟩
  iapply (sendSum m K c (dev11_eq c) 2 10 13 10 rfl (by decide) (by decide) rfl (sum_back2 m c) (off5_eq c) ?_) $$ HC HO S10 B2 D10
  · exact ⟨rfl, rfl⟩
  iintro ⟨HO, R10⟩
  iapply Hk
  iframe

/-- The device's own block goes across `x` and across `y`. -/
theorem part10 {Q : α → sProp 𝕄} (w0 w1 w2 w3 w4 w5 w6 : _) {k : _ → Prog (TpuEff nD τ sig (Elt F) Λ₀ .tc) α} :
    Ctx m K ⊢ iprop(ow c 11 -∗ snd c 3 14 18 -∗ ob m c (zm c 0) fullShare.left -∗ oa (tgt 3 c) (zm c 0) -∗ snd c 4 22 26 -∗ ob m c (zm c 0) fullShare.right -∗ oa (tgt 4 c) (zm c 0)
      -∗ (∀ r, ow c 13 ∗ rv c 14 ∗ rv c 22 -∗ WP c (k r) Q)
      -∗ WP c (args (k0_part10 (F := F)) c w0 w1 w2 w3 w4 w5 w6 >>= k) Q) := by
  rw [k0_part10_eq_skeleton]
  unfold k0_part10_skel
  simp only [semSignalWord, semWaitWord, Prog.lift, Prog.bind_op, Prog.bind_ret, Prog.pure_eq_ret]
  iintro #HC HO S14 Pl D14 S22 Pr D22 Hk
  iapply (send m K c (dev12_eq c) (zm c 0) 14 18 fullShare.left 11 rfl (by decide) (by decide) rfl (xn_back m c 0) (off5_eq c) ?_) $$ HC HO S14 Pl D14
  · exact ⟨rfl, rfl⟩
  iintro ⟨HO, R14⟩
  iapply (send m K c (dev13_eq c) (zm c 0) 22 26 fullShare.right 12 rfl (by decide) (by decide) rfl (yn_back m c 0) (off5_eq c) ?_) $$ HC HO S22 Pr D22
  · exact ⟨rfl, rfl⟩
  iintro ⟨HO, R22⟩
  iapply Hk
  iframe

/-- The first block of the column arrives and goes on across `x` and `y`. -/
theorem part11 {Q : α → sProp 𝕄} (w0 w1 w2 w3 w4 w5 w6 : _) {k : _ → Prog (TpuEff nD τ sig (Elt F) Λ₀ .tc) α} :
    Ctx m K ⊢ iprop(ow c 13 -∗ rv c 11 -∗ snd c 3 15 19 -∗ oa (tgt 3 c) (zm c 1) -∗ snd c 4 23 27 -∗ oa (tgt 4 c) (zm c 1)
      -∗ (∀ r, ow c 15 ∗ sz c (dm 11) ∗ rv c 15 ∗ rv c 23 -∗ WP c (k r) Q)
      -∗ WP c (args (k0_part11 (F := F)) c w0 w1 w2 w3 w4 w5 w6 >>= k) Q) := by
  rw [k0_part11_eq_skeleton]
  unfold k0_part11_skel
  simp only [semSignalWord, semWaitWord, Prog.lift, Prog.bind_op, Prog.bind_ret, Prog.pure_eq_ret]
  iintro #HC HO R11 S15 D15 S23 D23 Hk
  iapply (await m K c 11 13 (ob m c (zm c 1) fullShare) rfl (by decide) (by decide) ?_) $$ HC HO R11
  · rfl
  iintro ⟨HO, Z11, P11⟩
  ihave P := (ob_halves m c (zm c 1)).1 $$ P11
  icases P with ⟨Pl, Pr⟩
  iapply (send m K c (dev14_eq c) (zm c 1) 15 19 fullShare.left 13 rfl (by decide) (by decide) rfl (xn_back m c 1) (off6_eq c 0) ?_) $$ HC HO S15 Pl D15
  · exact ⟨rfl, rfl⟩
  iintro ⟨HO, R15⟩
  iapply (send m K c (dev15_eq c) (zm c 1) 23 27 fullShare.right 14 rfl (by decide) (by decide) rfl (yn_back m c 1) (off6_eq c 0) ?_) $$ HC HO S23 Pr D23
  · exact ⟨rfl, rfl⟩
  iintro ⟨HO, R23⟩
  iapply Hk
  iframe

/-- The second block arrives and goes on across `x`, -/
theorem part12 {Q : α → sProp 𝕄} (w0 w1 w2 w3 w4 w5 w6 w7 w8 : _) {k : _ → Prog (TpuEff nD τ sig (Elt F) Λ₀ .tc) α} :
    Ctx m K ⊢ iprop(ow c 15 -∗ rv c 12 -∗ snd c 3 16 20 -∗ oa (tgt 3 c) (zm c 2)
      -∗ (∀ r, ow c 16 ∗ sz c (dm 12) ∗ ob m c (zm c 2) fullShare.right ∗ rv c 16 -∗ WP c (k r) Q)
      -∗ WP c (args (k0_part12 (F := F)) c w0 w1 w2 w3 w4 w5 w6 w7 w8 >>= k) Q) := by
  rw [k0_part12_eq_skeleton]
  unfold k0_part12_skel
  simp only [semSignalWord, semWaitWord, Prog.lift, Prog.bind_op, Prog.bind_ret, Prog.pure_eq_ret]
  iintro #HC HO R12 S16 D16 Hk
  iapply (await m K c 12 15 (ob m c (zm c 2) fullShare) rfl (by decide) (by decide) ?_) $$ HC HO R12
  · rfl
  iintro ⟨HO, Z12, P12⟩
  ihave P := (ob_halves m c (zm c 2)).1 $$ P12
  icases P with ⟨Pl, Pr⟩
  iapply (send m K c (dev16_eq c) (zm c 2) 16 20 fullShare.left 15 rfl (by decide) (by decide) rfl (xn_back m c 2) (off6_eq c 1) ?_) $$ HC HO S16 Pl D16
  · exact ⟨rfl, rfl⟩
  iintro ⟨HO, R16⟩
  iapply Hk
  iframe

/-- and across `y`; the third arrives, -/
theorem part13 {Q : α → sProp 𝕄} (w0 w1 w2 w3 w4 w5 w6 : _) {k : _ → Prog (TpuEff nD τ sig (Elt F) Λ₀ .tc) α} :
    Ctx m K ⊢ iprop(ow c 16 -∗ snd c 4 24 28 -∗ ob m c (zm c 2) fullShare.right -∗ oa (tgt 4 c) (zm c 2) -∗ rv c 13
      -∗ (∀ r, ow c 17 ∗ rv c 24 ∗ sz c (dm 13) ∗ ob m c (zm c 3) fullShare.left ∗ ob m c (zm c 3) fullShare.right -∗ WP c (k r) Q)
      -∗ WP c (args (k0_part13 (F := F)) c w0 w1 w2 w3 w4 w5 w6 >>= k) Q) := by
  rw [k0_part13_eq_skeleton]
  unfold k0_part13_skel
  simp only [semSignalWord, semWaitWord, Prog.lift, Prog.bind_op, Prog.bind_ret, Prog.pure_eq_ret]
  iintro #HC HO S24 Pr D24 R13 Hk
  iapply (send m K c (dev17_eq c) (zm c 2) 24 28 fullShare.right 16 rfl (by decide) (by decide) rfl (yn_back m c 2) (off6_eq c 1) ?_) $$ HC HO S24 Pr D24
  · exact ⟨rfl, rfl⟩
  iintro ⟨HO, R24⟩
  iapply (await m K c 13 17 (ob m c (zm c 3) fullShare) rfl (by decide) (by decide) ?_) $$ HC HO R13
  · rfl
  iintro ⟨HO, Z13, P13⟩
  ihave P := (ob_halves m c (zm c 3)).1 $$ P13
  icases P with ⟨Pl, Pr⟩
  iapply Hk
  iframe

/-- and goes on across `x` and `y`. -/
theorem part14 {Q : α → sProp 𝕄} (w0 w1 w2 w3 w4 w5 : _) {k : _ → Prog (TpuEff nD τ sig (Elt F) Λ₀ .tc) α} :
    Ctx m K ⊢ iprop(ow c 17 -∗ snd c 3 17 21 -∗ ob m c (zm c 3) fullShare.left -∗ oa (tgt 3 c) (zm c 3) -∗ snd c 4 25 29 -∗ ob m c (zm c 3) fullShare.right -∗ oa (tgt 4 c) (zm c 3)
      -∗ (∀ r, ow c 19 ∗ rv c 17 ∗ rv c 25 -∗ WP c (k r) Q)
      -∗ WP c (args (k0_part14 (F := F)) c w0 w1 w2 w3 w4 w5 >>= k) Q) := by
  rw [k0_part14_eq_skeleton]
  unfold k0_part14_skel
  simp only [semSignalWord, semWaitWord, Prog.lift, Prog.bind_op, Prog.bind_ret, Prog.pure_eq_ret]
  iintro #HC HO S17 Pl D17 S25 Pr D25 Hk
  iapply (send m K c (dev18_eq c) (zm c 3) 17 21 fullShare.left 17 rfl (by decide) (by decide) rfl (xn_back m c 3) (off6_eq c 2) ?_) $$ HC HO S17 Pl D17
  · exact ⟨rfl, rfl⟩
  iintro ⟨HO, R17⟩
  iapply (send m K c (dev19_eq c) (zm c 3) 25 29 fullShare.right 18 rfl (by decide) (by decide) rfl (yn_back m c 3) (off6_eq c 2) ?_) $$ HC HO S25 Pr D25
  · exact ⟨rfl, rfl⟩
  iintro ⟨HO, R25⟩
  iapply Hk
  iframe

/-- The first block from across `x` arrives and goes on across `y`. -/
theorem part15 {Q : α → sProp 𝕄} (w0 w1 w2 w3 w4 w5 w6 w7 : _) {k : _ → Prog (TpuEff nD τ sig (Elt F) Λ₀ .tc) α} :
    Ctx m K ⊢ iprop(ow c 19 -∗ rv c 18 -∗ snd c 4 30 32 -∗ oa (tgt 4 c) (zm (xn c) 0)
      -∗ (∀ r, ow c 20 ∗ sz c (dm 18) ∗ rv c 30 -∗ WP c (k r) Q)
      -∗ WP c (args (k0_part15 (F := F)) c w0 w1 w2 w3 w4 w5 w6 w7 >>= k) Q) := by
  rw [k0_part15_eq_skeleton]
  unfold k0_part15_skel
  simp only [semSignalWord, semWaitWord, Prog.lift, Prog.bind_op, Prog.bind_ret, Prog.pure_eq_ret]
  iintro #HC HO R18 S30 D30 Hk
  iapply (await m K c 18 19 (ob m c (zm (xn c) 0) fullShare) rfl (by decide) (by decide) ?_) $$ HC HO R18
  · rfl
  iintro ⟨HO, Z18, P18⟩
  iapply (send m K c (dev20_eq c) (zm (xn c) 0) 30 32 fullShare 19 rfl (by decide) (by decide) rfl (xy_back m c 0) (off7_eq c 0) ?_) $$ HC HO S30 P18 D30
  · exact ⟨rfl, rfl⟩
  iintro ⟨HO, R30⟩
  iapply Hk
  iframe

/-- So does the second. -/
theorem part16 {Q : α → sProp 𝕄} (w0 w1 w2 w3 w4 w5 w6 w7 w8 : _) {k : _ → Prog (TpuEff nD τ sig (Elt F) Λ₀ .tc) α} :
    Ctx m K ⊢ iprop(ow c 20 -∗ rv c 19 -∗ snd c 4 31 33 -∗ oa (tgt 4 c) (zm (xn c) 1)
      -∗ (∀ r, ow c 21 ∗ sz c (dm 19) ∗ rv c 31 -∗ WP c (k r) Q)
      -∗ WP c (args (k0_part16 (F := F)) c w0 w1 w2 w3 w4 w5 w6 w7 w8 >>= k) Q) := by
  rw [k0_part16_eq_skeleton]
  unfold k0_part16_skel
  simp only [semSignalWord, semWaitWord, Prog.lift, Prog.bind_op, Prog.bind_ret, Prog.pure_eq_ret]
  iintro #HC HO R19 S31 D31 Hk
  iapply (await m K c 19 20 (ob m c (zm (xn c) 1) fullShare) rfl (by decide) (by decide) ?_) $$ HC HO R19
  · rfl
  iintro ⟨HO, Z19, P19⟩
  iapply (send m K c (dev21_eq c) (zm (xn c) 1) 31 33 fullShare 20 rfl (by decide) (by decide) rfl (xy_back m c 1) (off7_eq c 1) ?_) $$ HC HO S31 P19 D31
  · exact ⟨rfl, rfl⟩
  iintro ⟨HO, R31⟩
  iapply Hk
  iframe

/-- The two others from across `x` arrive. -/
theorem part17 {Q : α → sProp 𝕄} (w0 w1 w2 w3 w4 w5 : _) {k : _ → Prog (TpuEff nD τ sig (Elt F) Λ₀ .tc) α} :
    Ctx m K ⊢ iprop(ow c 21 -∗ rv c 20 -∗ rv c 21
      -∗ (∀ r, ow c 21 ∗ sz c (dm 20) ∗ ob m c (zm (xn c) 2) fullShare ∗ sz c (dm 21) ∗ ob m c (zm (xn c) 3) fullShare -∗ WP c (k r) Q)
      -∗ WP c (args (k0_part17 (F := F)) c w0 w1 w2 w3 w4 w5 >>= k) Q) := by
  rw [k0_part17_eq_skeleton]
  unfold k0_part17_skel
  simp only [semSignalWord, semWaitWord, Prog.lift, Prog.bind_op, Prog.bind_ret, Prog.pure_eq_ret]
  iintro #HC HO R20 R21 Hk
  iapply (await m K c 20 21 (ob m c (zm (xn c) 2) fullShare) rfl (by decide) (by decide) ?_) $$ HC HO R20
  · rfl
  iintro ⟨HO, Z20, P20⟩
  iapply (await m K c 21 21 (ob m c (zm (xn c) 3) fullShare) rfl (by decide) (by decide) ?_) $$ HC HO R21
  · rfl
  iintro ⟨HO, Z21, P21⟩
  iapply Hk
  iframe

/-- The first block from across `y` arrives, -/
theorem part18 {Q : α → sProp 𝕄} (w0 w1 w2 w3 : _) {k : _ → Prog (TpuEff nD τ sig (Elt F) Λ₀ .tc) α} :
    Ctx m K ⊢ iprop(ow c 21 -∗ rv c 26
      -∗ (∀ r, ow c 21 ∗ sz c (dm 26) ∗ ob m c (zm (yn c) 0) fullShare -∗ WP c (k r) Q)
      -∗ WP c (args (k0_part18 (F := F)) c w0 w1 w2 w3 >>= k) Q) := by
  rw [k0_part18_eq_skeleton]
  unfold k0_part18_skel
  simp only [semSignalWord, semWaitWord, Prog.lift, Prog.bind_op, Prog.bind_ret, Prog.pure_eq_ret]
  iintro #HC HO R26 Hk
  iapply (await m K c 26 21 (ob m c (zm (yn c) 0) fullShare) rfl (by decide) (by decide) ?_) $$ HC HO R26
  · rfl
  iintro ⟨HO, Z26, P26⟩
  iapply Hk
  iframe

/-- then the second and the third. -/
theorem part19 {Q : α → sProp 𝕄} (w0 w1 w2 w3 w4 w5 : _) {k : _ → Prog (TpuEff nD τ sig (Elt F) Λ₀ .tc) α} :
    Ctx m K ⊢ iprop(ow c 21 -∗ rv c 27 -∗ rv c 28
      -∗ (∀ r, ow c 21 ∗ sz c (dm 27) ∗ ob m c (zm (yn c) 1) fullShare ∗ sz c (dm 28) ∗ ob m c (zm (yn c) 2) fullShare -∗ WP c (k r) Q)
      -∗ WP c (args (k0_part19 (F := F)) c w0 w1 w2 w3 w4 w5 >>= k) Q) := by
  rw [k0_part19_eq_skeleton]
  unfold k0_part19_skel
  simp only [semSignalWord, semWaitWord, Prog.lift, Prog.bind_op, Prog.bind_ret, Prog.pure_eq_ret]
  iintro #HC HO R27 R28 Hk
  iapply (await m K c 27 21 (ob m c (zm (yn c) 1) fullShare) rfl (by decide) (by decide) ?_) $$ HC HO R27
  · rfl
  iintro ⟨HO, Z27, P27⟩
  iapply (await m K c 28 21 (ob m c (zm (yn c) 2) fullShare) rfl (by decide) (by decide) ?_) $$ HC HO R28
  · rfl
  iintro ⟨HO, Z28, P28⟩
  iapply Hk
  iframe

/-- The third goes on across `x`. -/
theorem part20 {Q : α → sProp 𝕄} (w0 w1 w2 w3 : _) {k : _ → Prog (TpuEff nD τ sig (Elt F) Λ₀ .tc) α} :
    Ctx m K ⊢ iprop(ow c 21 -∗ snd c 3 34 36 -∗ ob m c (zm (yn c) 2) fullShare -∗ oa (tgt 3 c) (zm (yn c) 2)
      -∗ (∀ r, ow c 22 ∗ rv c 34 -∗ WP c (k r) Q)
      -∗ WP c (args (k0_part20 (F := F)) c w0 w1 w2 w3 >>= k) Q) := by
  rw [k0_part20_eq_skeleton]
  unfold k0_part20_skel
  simp only [semSignalWord, semWaitWord, Prog.lift, Prog.bind_op, Prog.bind_ret, Prog.pure_eq_ret]
  iintro #HC HO S34 P28 D34 Hk
  iapply (send m K c (dev22_eq c) (zm (yn c) 2) 34 36 fullShare 21 rfl (by decide) (by decide) rfl (yx_back m c 2) (off8_eq c 2) ?_) $$ HC HO S34 P28 D34
  · exact ⟨rfl, rfl⟩
  iintro ⟨HO, R34⟩
  iapply Hk
  iframe

/-- The fourth block from across `y` arrives and goes on across `x`. -/
theorem part21 {Q : α → sProp 𝕄} (w0 w1 w2 w3 : _) {k : _ → Prog (TpuEff nD τ sig (Elt F) Λ₀ .tc) α} :
    Ctx m K ⊢ iprop(ow c 22 -∗ rv c 29 -∗ snd c 3 35 37 -∗ oa (tgt 3 c) (zm (yn c) 3)
      -∗ (∀ r, ow c 23 ∗ sz c (dm 29) ∗ rv c 35 -∗ WP c (k r) Q)
      -∗ WP c (args (k0_part21 (F := F)) c w0 w1 w2 w3 >>= k) Q) := by
  rw [k0_part21_eq_skeleton]
  unfold k0_part21_skel
  simp only [semSignalWord, semWaitWord, Prog.lift, Prog.bind_op, Prog.bind_ret, Prog.pure_eq_ret]
  iintro #HC HO R29 S35 D35 Hk
  iapply (await m K c 29 22 (ob m c (zm (yn c) 3) fullShare) rfl (by decide) (by decide) ?_) $$ HC HO R29
  · rfl
  iintro ⟨HO, Z29, P29⟩
  iapply (send m K c (dev23_eq c) (zm (yn c) 3) 35 37 fullShare 22 rfl (by decide) (by decide) rfl (yx_back m c 3) (off8_eq c 3) ?_) $$ HC HO S35 P29 D35
  · exact ⟨rfl, rfl⟩
  iintro ⟨HO, R35⟩
  iapply Hk
  iframe

/-- Two blocks of the opposite column arrive by way of `y`, -/
theorem part22 {Q : α → sProp 𝕄} (w0 w1 w2 w3 : _) {k : _ → Prog (TpuEff nD τ sig (Elt F) Λ₀ .tc) α} :
    Ctx m K ⊢ iprop(ow c 23 -∗ rv c 32 -∗ rv c 33
      -∗ (∀ r, ow c 23 ∗ sz c (dm 32) ∗ ob m c (zm (xn (yn c)) 0) fullShare ∗ sz c (dm 33) ∗ ob m c (zm (xn (yn c)) 1) fullShare -∗ WP c (k r) Q)
      -∗ WP c (args (k0_part22 (F := F)) c w0 w1 w2 w3 >>= k) Q) := by
  rw [k0_part22_eq_skeleton]
  unfold k0_part22_skel
  simp only [semSignalWord, semWaitWord, Prog.lift, Prog.bind_op, Prog.bind_ret, Prog.pure_eq_ret]
  iintro #HC HO R32 R33 Hk
  iapply (await m K c 32 23 (ob m c (zm (xn (yn c)) 0) fullShare) rfl (by decide) (by decide) ?_) $$ HC HO R32
  · rfl
  iintro ⟨HO, Z32, P32⟩
  iapply (await m K c 33 23 (ob m c (zm (xn (yn c)) 1) fullShare) rfl (by decide) (by decide) ?_) $$ HC HO R33
  · rfl
  iintro ⟨HO, Z33, P33⟩
  iapply Hk
  iframe

/-- one by way of `x`, -/
theorem part23 {Q : α → sProp 𝕄} (w0 w1 w2 w3 w4 : _) {k : _ → Prog (TpuEff nD τ sig (Elt F) Λ₀ .tc) α} :
    Ctx m K ⊢ iprop(ow c 23 -∗ rv c 36
      -∗ (∀ r, ow c 23 ∗ sz c (dm 36) ∗ ob m c (zm (xn (yn c)) 2) fullShare -∗ WP c (k r) Q)
      -∗ WP c (args (k0_part23 (F := F)) c w0 w1 w2 w3 w4 >>= k) Q) := by
  rw [k0_part23_eq_skeleton]
  unfold k0_part23_skel
  simp only [semSignalWord, semWaitWord, Prog.lift, Prog.bind_op, Prog.bind_ret, Prog.pure_eq_ret]
  iintro #HC HO R36 Hk
  iapply (await m K c 36 23 (ob m c (zm (xn (yn c)) 2) fullShare) rfl (by decide) (by decide) ?_) $$ HC HO R36
  · rfl
  iintro ⟨HO, Z36, P36⟩
  iapply Hk
  iframe

/-- and one more; then the sends of rows are over, and two of the summed block. -/
theorem part24 {Q : α → sProp 𝕄} {k : _ → Prog (TpuEff nD τ sig (Elt F) Λ₀ .tc) α} :
    Ctx m K ⊢ iprop(ow c 23 -∗ rv c 37 -∗ rv c 2 -∗ rv c 3 -∗ rv c 4 -∗ rv c 8 -∗ rv c 9
      -∗ (∀ r, ow c 23 ∗ sz c (dm 37) ∗ ob m c (zm (xn (yn c)) 3) fullShare ∗ sz c (dm 2) ∗ xb m c 1 ∗ sz c (dm 3) ∗ xb m c 2 ∗ sz c (dm 4) ∗ xb m c 3 ∗ sz c (dm 8) ∗ rd m c (shr 0) ∗ sz c (dm 9) ∗ rd m c (shr 1) -∗ WP c (k r) Q)
      -∗ WP c (args (k0_part24 (F := F)) c >>= k) Q) := by
  rw [k0_part24_eq_skeleton]
  unfold k0_part24_skel
  simp only [semSignalWord, semWaitWord, Prog.lift, Prog.bind_op, Prog.bind_ret, Prog.pure_eq_ret]
  iintro #HC HO R37 R2 R3 R4 R8 R9 Hk
  iapply (await m K c 37 23 (ob m c (zm (xn (yn c)) 3) fullShare) rfl (by decide) (by decide) ?_) $$ HC HO R37
  · rfl
  iintro ⟨HO, Z37, P37⟩
  iapply (await m K c 2 23 (xb m c 1) rfl (by decide) (by decide) ?_) $$ HC HO R2
  · rfl
  iintro ⟨HO, Z2, P2⟩
  iapply (await m K c 3 23 (xb m c 2) rfl (by decide) (by decide) ?_) $$ HC HO R3
  · rfl
  iintro ⟨HO, Z3, P3⟩
  iapply (await m K c 4 23 (xb m c 3) rfl (by decide) (by decide) ?_) $$ HC HO R4
  · rfl
  iintro ⟨HO, Z4, P4⟩
  iapply (await m K c 8 23 (rd m c (shr 0)) rfl (by decide) (by decide) ?_) $$ HC HO R8
  · rfl
  iintro ⟨HO, Z8, P8⟩
  iapply (await m K c 9 23 (rd m c (shr 1)) rfl (by decide) (by decide) ?_) $$ HC HO R9
  · rfl
  iintro ⟨HO, Z9, P9⟩
  iapply Hk
  iframe

/-- More sends are over, -/
theorem part25 {Q : α → sProp 𝕄} {k : _ → Prog (TpuEff nD τ sig (Elt F) Λ₀ .tc) α} :
    Ctx m K ⊢ iprop(ow c 23 -∗ rv c 10 -∗ rv c 14 -∗ rv c 22 -∗ rv c 15 -∗ rv c 23 -∗ rv c 16
      -∗ (∀ r, ow c 23 ∗ sz c (dm 10) ∗ rd m c (shr 2) ∗ sz c (dm 14) ∗ ob m c (zm c 0) fullShare.left ∗ sz c (dm 22) ∗ ob m c (zm c 0) fullShare.right ∗ sz c (dm 15) ∗ ob m c (zm c 1) fullShare.left ∗ sz c (dm 23) ∗ ob m c (zm c 1) fullShare.right ∗ sz c (dm 16) ∗ ob m c (zm c 2) fullShare.left -∗ WP c (k r) Q)
      -∗ WP c (args (k0_part25 (F := F)) c >>= k) Q) := by
  rw [k0_part25_eq_skeleton]
  unfold k0_part25_skel
  simp only [semSignalWord, semWaitWord, Prog.lift, Prog.bind_op, Prog.bind_ret, Prog.pure_eq_ret]
  iintro #HC HO R10 R14 R22 R15 R23 R16 Hk
  iapply (await m K c 10 23 (rd m c (shr 2)) rfl (by decide) (by decide) ?_) $$ HC HO R10
  · rfl
  iintro ⟨HO, Z10, P10⟩
  iapply (await m K c 14 23 (ob m c (zm c 0) fullShare.left) rfl (by decide) (by decide) ?_) $$ HC HO R14
  · rfl
  iintro ⟨HO, Z14, P14⟩
  iapply (await m K c 22 23 (ob m c (zm c 0) fullShare.right) rfl (by decide) (by decide) ?_) $$ HC HO R22
  · rfl
  iintro ⟨HO, Z22, P22⟩
  iapply (await m K c 15 23 (ob m c (zm c 1) fullShare.left) rfl (by decide) (by decide) ?_) $$ HC HO R15
  · rfl
  iintro ⟨HO, Z15, P15⟩
  iapply (await m K c 23 23 (ob m c (zm c 1) fullShare.right) rfl (by decide) (by decide) ?_) $$ HC HO R23
  · rfl
  iintro ⟨HO, Z23, P23⟩
  iapply (await m K c 16 23 (ob m c (zm c 2) fullShare.left) rfl (by decide) (by decide) ?_) $$ HC HO R16
  · rfl
  iintro ⟨HO, Z16, P16⟩
  iapply Hk
  iframe

/-- and more, -/
theorem part26 {Q : α → sProp 𝕄} {k : _ → Prog (TpuEff nD τ sig (Elt F) Λ₀ .tc) α} :
    Ctx m K ⊢ iprop(ow c 23 -∗ rv c 24 -∗ rv c 17 -∗ rv c 25 -∗ rv c 30 -∗ rv c 31 -∗ rv c 34
      -∗ (∀ r, ow c 23 ∗ sz c (dm 24) ∗ ob m c (zm c 2) fullShare.right ∗ sz c (dm 17) ∗ ob m c (zm c 3) fullShare.left ∗ sz c (dm 25) ∗ ob m c (zm c 3) fullShare.right ∗ sz c (dm 30) ∗ ob m c (zm (xn c) 0) fullShare ∗ sz c (dm 31) ∗ ob m c (zm (xn c) 1) fullShare ∗ sz c (dm 34) ∗ ob m c (zm (yn c) 2) fullShare -∗ WP c (k r) Q)
      -∗ WP c (args (k0_part26 (F := F)) c >>= k) Q) := by
  rw [k0_part26_eq_skeleton]
  unfold k0_part26_skel
  simp only [semSignalWord, semWaitWord, Prog.lift, Prog.bind_op, Prog.bind_ret, Prog.pure_eq_ret]
  iintro #HC HO R24 R17 R25 R30 R31 R34 Hk
  iapply (await m K c 24 23 (ob m c (zm c 2) fullShare.right) rfl (by decide) (by decide) ?_) $$ HC HO R24
  · rfl
  iintro ⟨HO, Z24, P24⟩
  iapply (await m K c 17 23 (ob m c (zm c 3) fullShare.left) rfl (by decide) (by decide) ?_) $$ HC HO R17
  · rfl
  iintro ⟨HO, Z17, P17⟩
  iapply (await m K c 25 23 (ob m c (zm c 3) fullShare.right) rfl (by decide) (by decide) ?_) $$ HC HO R25
  · rfl
  iintro ⟨HO, Z25, P25⟩
  iapply (await m K c 30 23 (ob m c (zm (xn c) 0) fullShare) rfl (by decide) (by decide) ?_) $$ HC HO R30
  · rfl
  iintro ⟨HO, Z30, P30⟩
  iapply (await m K c 31 23 (ob m c (zm (xn c) 1) fullShare) rfl (by decide) (by decide) ?_) $$ HC HO R31
  · rfl
  iintro ⟨HO, Z31, P31⟩
  iapply (await m K c 34 23 (ob m c (zm (yn c) 2) fullShare) rfl (by decide) (by decide) ?_) $$ HC HO R34
  · rfl
  iintro ⟨HO, Z34, P34⟩
  iapply Hk
  iframe

/-- and the last; four partners are told so. -/
theorem part27 {Q : α → sProp 𝕄} (w0 w1 w2 w3 w4 w5 w6 w7 : _) {k : _ → Prog (TpuEff nD τ sig (Elt F) Λ₀ .tc) α} :
    Ctx m K ⊢ iprop(ow c 23 -∗ rv c 35 -∗ tk (tgt 0 c) (.reg (1 : Fin 2)) 0 -∗ tk (tgt 1 c) (.reg (1 : Fin 2)) 1 -∗ tk (tgt 2 c) (.reg (1 : Fin 2)) 2 -∗ tk (tgt 3 c) (.reg (1 : Fin 2)) 3
      -∗ (∀ r, ow c 27 ∗ sz c (dm 35) ∗ ob m c (zm (yn c) 3) fullShare -∗ WP c (k r) Q)
      -∗ WP c (args (k0_part27 (F := F)) c w0 w1 w2 w3 w4 w5 w6 w7 >>= k) Q) := by
  rw [k0_part27_eq_skeleton]
  unfold k0_part27_skel
  simp only [semSignalWord, semWaitWord, Prog.lift, Prog.bind_op, Prog.bind_ret, Prog.pure_eq_ret]
  iintro #HC HO R35 T0 T1 T2 T3 Hk
  iapply (await m K c 35 23 (ob m c (zm (yn c) 3) fullShare) rfl (by decide) (by decide) ?_) $$ HC HO R35
  · rfl
  iintro ⟨HO, Z35, P35⟩
  iapply (leave m K c (dev24_eq c) 23 rfl ?_) $$ HC HO T0
  · rfl
  iintro HO
  iapply (leave m K c (dev25_eq c) 24 rfl ?_) $$ HC HO T1
  · rfl
  iintro HO
  iapply (leave m K c (dev26_eq c) 25 rfl ?_) $$ HC HO T2
  · rfl
  iintro HO
  iapply (leave m K c (dev27_eq c) 26 rfl ?_) $$ HC HO T3
  · rfl
  iintro HO
  iapply Hk
  iframe

end Parts

end Cert.KernelIdeal.AllReduce

end
-- ==== Proof.IdealLocals.lean ====
/-
The kernel's printed pieces that compute and meet the partners first: what each takes of a device's resources and what it leaves.
-/
module

public import proofs.«01_k».proof.Proof.IdealParts

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 39 → ℕ)

section Locals
variable {α : Type} (c : Dev nD)

/-- The first piece only names the device. -/
theorem part1 {Q : α → sProp 𝕄} {k : _ → Prog (TpuEff nD τ sig (Elt F) Λ₀ .tc) α} :
    iprop(∀ w2 w5 w8 w10 w13 w16 w20 w31 w32 a w33 b, WP c (k ⟨c, w2, w5, w8, w10, w13, w16, w20, w31, w32, a, w33, b⟩) Q)
      ⊢ WP c (args (k0_part1 (F := F)) >>= k) Q := by
  rw [k0_part1_eq_skeleton]
  unfold k0_part1_skel
  simp only [Prog.lift, Prog.bind_op, Prog.bind_ret, Prog.pure_eq_ret, wp_deviceId]
  iintro H
  iapply H

/-- The copy of the device's own quarter starts, and the first partner is told. -/
theorem part2 {Q : α → sProp 𝕄} (w0 w1 w2 w3 w4 w5 w6 w7 w8 : _) {k : _ → Prog (TpuEff nD τ sig (Elt F) Λ₀ .tc) α} :
    Ctx m K ⊢ iprop(ow c 0 -∗ (ps c (dm 1) ∗ tk c (dm 1) 0) -∗ xa m c -∗ qa c -∗ tk (tgt 0 c) (.reg (0 : Fin 2)) 0 -∗ gv c 0
      -∗ (∀ a b d e f, ow c 1 ∗ rv c 1 -∗ WP c (k ⟨a, b, d, e, SemArray.scalar (sig.barrier 0 rfl), f⟩) Q)
      -∗ WP c (args (k0_part2 (F := F)) c w0 w1 w2 w3 w4 w5 w6 w7 w8 >>= k) Q) := by
  rw [k0_part2_eq_skeleton]
  unfold k0_part2_skel
  simp only [semSignalWord, semWaitWord, Prog.lift, Prog.bind_op, Prog.bind_ret, Prog.pure_eq_ret]
  iintro #HC HO S1 HA HQ T HG Hk
  iapply (fetch m K c ?_) $$ HC S1 HA HQ
  · rfl
  iintro R1
  iapply (enter m K c (dev1_eq c) 0 rfl ?_) $$ HC HO T HG
  · rfl
  iintro HO
  iapply Hk
  iframe

/-- The quarter rounded: the loads and the store that fill the buffer of the rounded quarter. -/
theorem round {Q : α → sProp 𝕄} {k : PUnit → Prog (TpuEff nD τ sig (Elt F) Λ₀ .tc) α} {h1 h2 h3 h4} :
    xq m c ⊢ iprop(ra c -∗ (xq m c ∗ xb m c 0 ∗ xb m c 1 ∗ xb m c 2 ∗ xb m c 3 -∗ WP c (k ⟨⟩) Q)
      -∗ WP c (.op (.load (Memref.whole cc0_scratch0 : Memref sig .tc .vmem S1024x1024 .f32)
            (Rect.unit (s := S1024x1024) ![0, 0] S1024x1024.size inb_S1024x1024_S1024x1024_0_0).toLoadRect h1) fun v =>
          .op (.load (Memref.whole cc0_scratch1 : Memref sig .tc .vmem S1024x1024 .bf16)
            (Rect.unit (s := S1024x1024) ![0, 0] S1024x1024.size inb_S1024x1024_S1024x1024_0_0).toLoadRect h2) fun _ =>
          .op (.store (Memref.whole cc0_scratch1 : Memref sig .tc .vmem S1024x1024 .bf16)
            (Rect.unit (s := S1024x1024) ![0, 0] S1024x1024.size inb_S1024x1024_S1024x1024_0_0) (k0_pay1 v) Finset.univ h3 h4) k) Q) := by
  have ez : (![0, 0] : Fin 2 → ℕ) = fun _ => 0 := by decide
  unfold xq ra
  iintro HX ⟨%f, HB⟩ Hk
  iapply (wp_load 𝒱₀ (c : Thread nD τ) none Set.univ (m := (Memref.whole cc0_scratch0 : Memref sig .tc .vmem S1024x1024 .f32)) (Finset.subset_univ _)) $$ HX
  iintro HX
  iapply (wp_load 𝒱₀ (c : Thread nD τ) none Set.univ (m := (Memref.whole cc0_scratch1 : Memref sig .tc .vmem S1024x1024 .bf16)) (Finset.subset_univ _)) $$ HB
  iintro HB
  iapply (wp_store 𝒱₀ (c : Thread nD τ) none Set.univ (m := (Memref.whole cc0_scratch1 : Memref sig .tc .vmem S1024x1024 .bf16)) (r := Rect.unit (s := S1024x1024) ![0, 0] S1024x1024.size inb_S1024x1024_S1024x1024_0_0) (Finset.subset_univ _)) $$ HB
  iintro HB
  have er := Memref.readAt_unit_zero (Elt F) cc0_scratch0 ez inb_S1024x1024_S1024x1024_0_0 (xqV m c)
  have ew := fun w => Memref.write_access_unit_zero_univ (Elt F) cc0_scratch1 ez inb_S1024x1024_S1024x1024_0_0 f w
  have e := Entails.of_eq (xb_blocks m c)
  have e2 : (((c : Thread nD τ).loc cc0_scratch1) ↦{fullShare} (((Memref.whole cc0_scratch1 : Memref sig .tc .vmem S1024x1024 .bf16).access
      (Rect.unit (s := S1024x1024) ![0, 0] S1024x1024.size inb_S1024x1024_S1024x1024_0_0)).write (Elt F) f (k0_pay1 ((Memref.whole cc0_scratch0 : Memref sig .tc .vmem S1024x1024 .f32).view.readAt (Elt F)
        (Rect.unit (s := S1024x1024) ![0, 0] S1024x1024.size inb_S1024x1024_S1024x1024_0_0).toLoadRect (xqV m c))) Finset.univ) : sProp 𝕄)
      ⊢ ((c : Thread nD τ).loc cc0_scratch1) ↦{fullShare} xbV m c := by
    refine Entails.of_eq ?_
    exact congrArg (fun w => (((c : Thread nD τ).loc cc0_scratch1) ↦{fullShare} w : sProp 𝕄)) ((ew _).trans (congrArg (k0_pay1 (F := F)) er))
  ihave HB := (e2.trans e) $$ HB
  iapply Hk
  iframe

/-- The other partners are told and waited for, the copied quarter arrives and is rounded. -/
theorem part3 {Q : α → sProp 𝕄} (w0 w1 w2 w3 w4 w5 w6 w8 : _) {k : _ → Prog (TpuEff nD τ sig (Elt F) Λ₀ .tc) α} :
    Ctx m K ⊢ iprop(ow c 1 -∗ tk (tgt 1 c) (.reg (0 : Fin 2)) 1 -∗ gv c 1 -∗ tk (tgt 2 c) (.reg (0 : Fin 2)) 2 -∗ gv c 2
      -∗ tk (tgt 3 c) (.reg (0 : Fin 2)) 3 -∗ gv c 3 -∗ tk (tgt 4 c) (.reg (0 : Fin 2)) 4 -∗ gv c 4 -∗ mt c (0 : Fin 2) -∗ rv c 1 -∗ ra c
      -∗ (∀ r, ow c 5 ∗ sz c (.reg (0 : Fin 2)) ∗ (barPay c 0 ∗ barPay c 1 ∗ barPay c 2 ∗ barPay c 3 ∗ barPay c 4) ∗ sz c (dm 1) ∗ xa m c
            ∗ xq m c ∗ xb m c 0 ∗ xb m c 1 ∗ xb m c 2 ∗ xb m c 3 -∗ WP c (k r) Q)
      -∗ WP c (args (k0_part3 (F := F)) c w0 w1 w2 w3 w4 w5 w6 (SemArray.scalar (sig.barrier 0 rfl)) w8 >>= k) Q) := by
  rw [k0_part3_eq_skeleton]
  unfold k0_part3_skel
  simp only [semSignalWord, semWaitWord, Prog.lift, Prog.bind_op, Prog.bind_ret, Prog.pure_eq_ret]
  iintro #HC HO T1 G1 T2 G2 T3 G3 T4 G4 HM R1 HR Hk
  iapply (enter m K c (dev2_eq c) 1 rfl ?_) $$ HC HO T1 G1
  · rfl
  iintro HO
  iapply (enter m K c (dev3_eq c) 2 rfl ?_) $$ HC HO T2 G2
  · rfl
  iintro HO
  iapply (enter m K c (dev4_eq c) 3 rfl ?_) $$ HC HO T3 G3
  · rfl
  iintro HO
  iapply (enter m K c (dev5_eq c) 4 rfl ?_) $$ HC HO T4 G4
  · rfl
  iintro HO
  iapply (entered m K c ?_) $$ HC HO HM
  · rfl
  iintro ⟨HO, Z0, HB⟩
  iapply (fetched m K c 5 (by decide) ?_) $$ HC HO R1
  · rfl
  iintro ⟨HO, Z1, HX, HA⟩
  iapply (round m c) $$ HX HR
  iintro ⟨HX, HB'⟩
  iapply Hk
  iframe

/-- The sum of the device's own rows and the three received ones: the loads and the two stores. -/
theorem part7 {Q : α → sProp 𝕄} (w0 w1 w2 w3 w4 w5 : _) {k : _ → Prog (TpuEff nD τ sig (Elt F) Λ₀ .tc) α} :
    Ctx m K ⊢ iprop(ow c 8 -∗ rv c 7 -∗ sr m c 0 -∗ sr m c 1 -∗ xq m c -∗ da c -∗ oa c (zm c 0)
      -∗ (∀ r, ow c 8 ∗ sz c (dm 7) ∗ xq m c ∗ (((c : Thread nD τ).loc cc0_scratch3) ↦{fullShare} rsV m c) ∗ (rd m c (shr 0) ∗ rd m c (shr 1) ∗ rd m c (shr 2))
            ∗ ob m c (zm c 0) fullShare.left ∗ ob m c (zm c 0) fullShare.right -∗ WP c (k r) Q)
      -∗ WP c (args (k0_part7 (F := F)) c w0 w1 w2 w3 w4 w5 >>= k) Q) := by
  rw [k0_part7_eq_skeleton]
  unfold k0_part7_skel
  simp only [semSignalWord, semWaitWord, Prog.lift, Prog.bind_op, Prog.bind_ret, Prog.pure_eq_ret]
  have ez : (![0, 0] : Fin 2 → ℕ) = fun _ => 0 := by decide
  unfold da oa xq
  iintro #HC HO R7 P5 P6 HX ⟨%fd, HD⟩ ⟨%fo, HW⟩ Hk
  iapply (await m K c 7 8 (sr m c 2) rfl (by decide) (by decide) ?_) $$ HC HO R7
  · rfl
  iintro ⟨HO, Z7, P7⟩
  ihave HS := (slots_join m c) $$ [P5 P6 P7]
  · iframe
  iapply (wp_load 𝒱₀ (c : Thread nD τ) none Set.univ (m := (Memref.whole cc0_scratch0 : Memref sig .tc .vmem S1024x1024 .f32)) (Finset.subset_univ _)) $$ HX
  iintro HX
  iapply (wp_load 𝒱₀ (c : Thread nD τ) none Set.univ (m := (Memref.whole cc0_scratch3 : Memref sig .tc .vmem S3x256x1024 .bf16)) (Finset.subset_univ _)) $$ HS
  iintro HS
  iapply (wp_load 𝒱₀ (c : Thread nD τ) none Set.univ (m := (Memref.whole cc0_scratch3 : Memref sig .tc .vmem S3x256x1024 .bf16)) (Finset.subset_univ _)) $$ HS
  iintro HS
  iapply (wp_load 𝒱₀ (c : Thread nD τ) none Set.univ (m := (Memref.whole cc0_scratch3 : Memref sig .tc .vmem S3x256x1024 .bf16)) (Finset.subset_univ _)) $$ HS
  iintro HS
  iapply (wp_load 𝒱₀ (c : Thread nD τ) none Set.univ (m := (Memref.whole cc0_scratch2 : Memref sig .tc .vmem S256x1024 .bf16)) (Finset.subset_univ _)) $$ HD
  iintro HD
  iapply (wp_store 𝒱₀ (c : Thread nD τ) none Set.univ (m := (Memref.whole cc0_scratch2 : Memref sig .tc .vmem S256x1024 .bf16)) (r := Rect.unit (s := S256x1024) ![0, 0] S256x1024.size inb_S256x1024_S256x1024_0_0) (Finset.subset_univ _)) $$ HD
  iintro HD
  have ew := Memref.write_access_unit_zero_univ (Elt F) cc0_scratch2 ez inb_S256x1024_S256x1024_0_0 fd (redV m c)
  have er := Memref.readAt_unit_zero (Elt F) cc0_scratch2 ez inb_S256x1024_S256x1024_0_0 (redV m c)
  ihave HD : (((c : Thread nD τ).loc cc0_scratch2) ↦{fullShare} redV m c) $$ [HD]
  · iapply (Entails.of_eq (congrArg (fun w => (((c : Thread nD τ).loc cc0_scratch2) ↦{fullShare} w : sProp 𝕄)) ew))
    iexact HD
  iapply (wp_load 𝒱₀ (c : Thread nD τ) none Set.univ (m := (Memref.whole cc0_scratch2 : Memref sig .tc .vmem S256x1024 .bf16)) (Finset.subset_univ _)) $$ HD
  iintro HD
  have hset : ((Memref.whole cc0_stg0_0 : Memref sig .tc .vmem S4096x1024 .bf16).access (Rect.unit (s := S4096x1024) (k0_off4 c) S256x1024.size (k0_off4_inb c))).set = blk (zm c 0).val :=
    outM_set (k0_off4_inb c) (off4_eq c)
  iapply (wp_load_rect 𝒱₀ (c : Thread nD τ) none Set.univ (m := (Memref.whole cc0_stg0_0 : Memref sig .tc .vmem S4096x1024 .bf16))
    (r := Rect.unit (s := S4096x1024) (k0_off4 c) S256x1024.size (k0_off4_inb c)) (S := blk (zm c 0).val) (f := fo) hset.subset) $$ HW
  iintro HW
  iapply (wp_store 𝒱₀ (c : Thread nD τ) none Set.univ (m := (Memref.whole cc0_stg0_0 : Memref sig .tc .vmem S4096x1024 .bf16))
    (r := Rect.unit (s := S4096x1024) (k0_off4 c) S256x1024.size (k0_off4_inb c)) (S := blk (zm c 0).val) (f := fo) hset.subset) $$ HW
  iintro HW
  have e3 := wrote_red m (k0_off4_inb c) (off4_eq c) c fo
  rw [show redV m (zm c 0) = redV m c by rw [zm_zero], hset] at e3
  have e4 := Entails.of_eq ((congrArg (fun w => (((c : Thread nD τ).loc cc0_stg0_0) ↦[blk (zm c 0).val]{fullShare}
    ((Memref.whole cc0_stg0_0 : Memref sig .tc .vmem S4096x1024 .bf16).access (Rect.unit (s := S4096x1024) (k0_off4 c) S256x1024.size (k0_off4_inb c))).write (Elt F) fo w Finset.univ : sProp 𝕄)) er).trans e3)
  ihave HW := (e4.trans (ob_halves m c (zm c 0)).1) $$ HW
  ihave HD := (rd_shares m c).1 $$ [HD]
  · unfold rd
    iexact HD
  iapply Hk
  iframe

end Locals

end Cert.KernelIdeal.AllReduce

end
-- ==== Proof.IdealBody.lean ====
/-
One device's whole run of the kernel: from what the launch hands it to its argument untouched, its result filled and its
semaphores at zero.
-/
module

public import proofs.«01_k».proof.Proof.IdealLocals

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 39 → ℕ)

section Body
variable (c : Dev nD)

/-- The tokens and positions a device starts with, apart from its dues and its buffers. -/
def gear : sProp 𝕄 := iprop((ps c (dm 1) ∗ tk c (dm 1) 0)
    ∗ (tk (tgt 0 c) (.reg (0 : Fin 2)) 0 ∗ tk (tgt 1 c) (.reg (0 : Fin 2)) 1 ∗ tk (tgt 2 c) (.reg (0 : Fin 2)) 2 ∗
      tk (tgt 3 c) (.reg (0 : Fin 2)) 3 ∗ tk (tgt 4 c) (.reg (0 : Fin 2)) 4)
    ∗ (tk (tgt 0 c) (.reg (1 : Fin 2)) 0 ∗ tk (tgt 1 c) (.reg (1 : Fin 2)) 1 ∗ tk (tgt 2 c) (.reg (1 : Fin 2)) 2 ∗
      tk (tgt 3 c) (.reg (1 : Fin 2)) 3 ∗ tk (tgt 4 c) (.reg (1 : Fin 2)) 4)
    ∗ mt c (0 : Fin 2) ∗ mt c (1 : Fin 2)
    ∗ (snd c 0 2 5 ∗ snd c 1 3 6 ∗ snd c 2 4 7 ∗ snd c 0 8 11 ∗ snd c 1 9 12 ∗ snd c 2 10 13 ∗
      snd c 3 14 18 ∗ snd c 3 15 19 ∗ snd c 3 16 20 ∗ snd c 3 17 21 ∗ snd c 4 22 26 ∗ snd c 4 23 27 ∗
      snd c 4 24 28 ∗ snd c 4 25 29 ∗ snd c 4 30 32 ∗ snd c 4 31 33 ∗ snd c 3 34 36 ∗ snd c 3 35 37)
    ∗ (rv c 5 ∗ rv c 6 ∗ rv c 7 ∗ rv c 11 ∗ rv c 12 ∗ rv c 13 ∗ rv c 18 ∗ rv c 19 ∗ rv c 20 ∗
      rv c 21 ∗ rv c 26 ∗ rv c 27 ∗ rv c 28 ∗ rv c 29 ∗ rv c 32 ∗ rv c 33 ∗ rv c 36 ∗ rv c 37))

/-- The receive buffer at whatever it holds, -/
def ia : sProp 𝕄 := iprop(∃ f : Buf (Elt F) ((c : Thread nD τ).loc cc0_scratch3), ((c : Thread nD τ).loc cc0_scratch3) ↦{fullShare} f)
/-- the result's staging buffer at whatever it holds, -/
def wa : sProp 𝕄 := iprop(∃ f : Buf (Elt F) ((c : Thread nD τ).loc cc0_stg0_0), ((c : Thread nD τ).loc cc0_stg0_0) ↦{fullShare} f)
/-- and the kernel's own semaphores, all at zero. -/
def zeros : sProp 𝕄 := iprop(sz c (.reg (0 : Fin 2)) ∗ sz c (.reg (1 : Fin 2)) ∗ sz c (dm 1) ∗ sz c (dm 2) ∗ sz c (dm 3) ∗ sz c (dm 4) ∗
    sz c (dm 5) ∗ sz c (dm 6) ∗ sz c (dm 7) ∗ sz c (dm 8) ∗ sz c (dm 9) ∗ sz c (dm 10) ∗
    sz c (dm 11) ∗ sz c (dm 12) ∗ sz c (dm 13) ∗ sz c (dm 14) ∗ sz c (dm 15) ∗ sz c (dm 16) ∗
    sz c (dm 17) ∗ sz c (dm 18) ∗ sz c (dm 19) ∗ sz c (dm 20) ∗ sz c (dm 21) ∗ sz c (dm 22) ∗
    sz c (dm 23) ∗ sz c (dm 24) ∗ sz c (dm 25) ∗ sz c (dm 26) ∗ sz c (dm 27) ∗ sz c (dm 28) ∗
    sz c (dm 29) ∗ sz c (dm 30) ∗ sz c (dm 31) ∗ sz c (dm 32) ∗ sz c (dm 33) ∗ sz c (dm 34) ∗
    sz c (dm 35) ∗ sz c (dm 36) ∗ sz c (dm 37))

omit [FloatOps F] in
/-- The blocks of a result in the order in which they are given away, written out. -/
theorem give_order (Φ : Dev nD → sProp 𝕄) : bigSepL (giveOrder c) Φ = iprop(Φ (zm c 0) ∗ Φ (zp c 1) ∗ Φ (zp c 2) ∗ Φ (zp c 3)
    ∗ Φ (zm (xn c) 0) ∗ Φ (zm (xn c) 1) ∗ Φ (zm (xn c) 2) ∗ Φ (zm (xn c) 3) ∗ Φ (zm (yn (xn c)) 2) ∗ Φ (zm (yn (xn c)) 3)
    ∗ Φ (zm (yn c) 0) ∗ Φ (zm (yn c) 1) ∗ Φ (zm (yn c) 2) ∗ Φ (zm (yn c) 3) ∗ Φ (zm (xn (yn c)) 0) ∗ Φ (zm (xn (yn c)) 1)) := rfl

/-- The two buffers the other devices write into, as the rights handed out at the entry barrier. -/
theorem give_all : iprop(ia c ∗ wa c) ⊢ iprop(oa (F := F) c (zm c 0) ∗ gv c 0 ∗ gv c 1 ∗ gv c 2 ∗ gv c 3 ∗ gv c 4) := by
  unfold ia wa
  iintro ⟨⟨%f, HS⟩, ⟨%g, HW⟩⟩
  ihave HS := (slots_split c f) $$ HS
  ihave HW := ((out_split c g).trans (Entails.of_eq (give_order c _))) $$ HW
  simp only [gv]
  icases HS with ⟨A0, A1, A2⟩
  icases HW with ⟨W0, W1, W2, W3, X0, X1, X2, X3, X4, X5, Y0, Y1, Y2, Y3, Y4, Y5⟩
  iframe

/-- The rights received at the entry barrier, by partner. -/
theorem got_all : iprop(barPay (F := F) c 0 ∗ barPay c 1 ∗ barPay c 2 ∗ barPay c 3 ∗ barPay c 4)
    ⊢ iprop((sa (tgt 2 c) 2 ∗ oa (tgt 2 c) (zm c 0)) ∗ (sa (tgt 1 c) 1 ∗ oa (tgt 1 c) (zm c 0)) ∗ (sa (tgt 0 c) 0 ∗ oa (tgt 0 c) (zm c 0))
      ∗ (oa (tgt 3 c) (zm c 0) ∗ oa (tgt 3 c) (zm c 1) ∗ oa (tgt 3 c) (zm c 2) ∗ oa (tgt 3 c) (zm c 3) ∗ oa (tgt 3 c) (zm (yn c) 2) ∗ oa (tgt 3 c) (zm (yn c) 3))
      ∗ (oa (tgt 4 c) (zm c 0) ∗ oa (tgt 4 c) (zm c 1) ∗ oa (tgt 4 c) (zm c 2) ∗ oa (tgt 4 c) (zm c 3) ∗ oa (tgt 4 c) (zm (xn c) 0) ∗ oa (tgt 4 c) (zm (xn c) 1))) :=
  Entails.of_eq rfl

/-- What a device ends with. -/
def final : sProp 𝕄 := iprop(ow c 28 ∗ zeros c ∗ xa m c ∗ xq m c ∗ ra c ∗ rd m c fullShare ∗ ia c
    ∗ (((c : Thread nD τ).loc cc0_stg0_0) ↦{fullShare} outV m))

/-- The four row blocks of the rounded quarter are its buffer again. -/
theorem rows_back : iprop(xb m c 0 ∗ xb m c 1 ∗ xb m c 2 ∗ xb m c 3) ⊢ ra (F := F) c := by
  unfold ra
  rw [← xb_blocks]
  iintro H
  iexists _
  iexact H

omit [FloatOps F] in
/-- The blocks of a result in the order in which they come back, written out. -/
theorem got_order (Φ : Dev nD → sProp 𝕄) : bigSepL (getOrder c) Φ = iprop(Φ (zm c 0) ∗ Φ (zm c 1) ∗ Φ (zm c 2) ∗ Φ (zm c 3)
    ∗ Φ (zm (xn c) 0) ∗ Φ (zm (xn c) 1) ∗ Φ (zm (xn c) 2) ∗ Φ (zm (xn c) 3)
    ∗ Φ (zm (yn c) 0) ∗ Φ (zm (yn c) 1) ∗ Φ (zm (yn c) 2) ∗ Φ (zm (yn c) 3)
    ∗ Φ (zm (xn (yn c)) 0) ∗ Φ (zm (xn (yn c)) 1) ∗ Φ (zm (xn (yn c)) 2) ∗ Φ (zm (xn (yn c)) 3)) := rfl

/-- The sixteen blocks of the result, some still in two halves, are the whole result. -/
theorem out_back : iprop((ob m c (zm c 0) fullShare.left ∗ ob m c (zm c 0) fullShare.right) ∗ (ob m c (zm c 1) fullShare.left ∗ ob m c (zm c 1) fullShare.right)
      ∗ (ob m c (zm c 2) fullShare.left ∗ ob m c (zm c 2) fullShare.right) ∗ (ob m c (zm c 3) fullShare.left ∗ ob m c (zm c 3) fullShare.right)
      ∗ (ob m c (zm (xn c) 0) fullShare ∗ ob m c (zm (xn c) 1) fullShare ∗ ob m c (zm (xn c) 2) fullShare ∗ ob m c (zm (xn c) 3) fullShare)
      ∗ (ob m c (zm (yn c) 0) fullShare ∗ ob m c (zm (yn c) 1) fullShare ∗ ob m c (zm (yn c) 2) fullShare ∗ ob m c (zm (yn c) 3) fullShare)
      ∗ ob m c (zm (xn (yn c)) 0) fullShare ∗ ob m c (zm (xn (yn c)) 1) fullShare ∗ ob m c (zm (xn (yn c)) 2) fullShare ∗ ob m c (zm (xn (yn c)) 3) fullShare)
    ⊢ ((((c : Thread nD τ).loc cc0_stg0_0) ↦{fullShare} outV m) : sProp 𝕄) := by
  iintro ⟨H0, H1, H2, H3, ⟨X0, X1, X2, X3⟩, ⟨Y0, Y1, Y2, Y3⟩, V0, V1, V2, V3⟩
  ihave H0 := (ob_halves m c (zm c 0)).2 $$ H0
  ihave H1 := (ob_halves m c (zm c 1)).2 $$ H1
  ihave H2 := (ob_halves m c (zm c 2)).2 $$ H2
  ihave H3 := (ob_halves m c (zm c 3)).2 $$ H3
  iapply (out_join m c)
  rw [got_order]
  iframe

/-- One device's run. -/
theorem run (Q : sProp 𝕄) : Ctx m K ⊢ iprop(ow c 0 -∗ gear c -∗ xa m c -∗ qa c -∗ ra c -∗ da c -∗ ia c -∗ wa c -∗ (final m c -∗ Q)
    -∗ WP c (args (cc0_body (F := F))) (fun _ => Q)) := by
  rw [cc0_body_eq_skeleton]
  unfold cc0_body_skel gear
  iintro #HC HO ⟨S1, ⟨T0, T1, T2, T3, T4⟩, ⟨U0, U1, U2, U3, U4⟩, M0, M1,
    ⟨S2, S3, S4, S8, S9, S10, S14, S15, S16, S17, S22, S23, S24, S25, S30, S31, S34, S35⟩, ⟨R5, R6, R7, R11, R12, R13, R18, R19, R20, R21, R26, R27, R28, R29, R32, R33, R36, R37⟩⟩ HA HQ HR HD HI HW Hk
  ihave HG := (give_all c) $$ [HI HW]
  · iframe
  icases HG with ⟨HW, G0, G1, G2, G3, G4⟩
  iapply (part1 c)
  iintro %w2 %w5 %w8 %w10 %w13 %w16 %w20 %w31 %w32 %a %w33 %b
  iapply (part2 m K c _ _ _ _ _ _ _ _ _) $$ HC HO S1 HA HQ T0 G0
  iintro %v42 %v53 %v54 %v55 %v68 ⟨HO, R1⟩
  iapply (part3 m K c _ _ _ _ _ _ _ _) $$ HC HO T1 G1 T2 G2 T3 G3 T4 G4 M0 R1 HR
  iintro %r
  obtain ⟨r1, r2, r3⟩ := r
  iintro ⟨HO, Z0, HB, Z1, HA, HX, BX, B0, B1, B2⟩
  ihave HB := (got_all c) $$ HB
  icases HB with ⟨⟨D4, D10⟩, ⟨D3, D9⟩, ⟨D2, D8⟩, ⟨D14, D15, D16, D17, D34, D35⟩, D22, D23, D24, D25, D30, D31⟩
  iapply (part4 m K c _ _ _ _ _ _) $$ HC HO S2 B0 D2
  iintro %r
  obtain ⟨r0, r1⟩ := r
  iintro ⟨HO, R2⟩
  iapply (part5 m K c _ _ _ _) $$ HC HO S3 B1 D3
  iintro %r ⟨HO, R3⟩
  iapply (part6 m K c _ _ _ _) $$ HC HO S4 B2 D4 R5 R6
  iintro %r
  obtain ⟨r0, r1⟩ := r
  iintro ⟨HO, R4, Z5, P5, Z6, P6⟩
  iapply (part7 m K c _ _ _ _ _ _) $$ HC HO R7 P5 P6 HX HD HW
  iintro %r ⟨HO, Z7, HX, HI, ⟨B0, B1, B2⟩, Pl, Pr⟩
  iapply (part8 m K c _ _ _ _) $$ HC HO S8 B0 D8
  iintro %r
  obtain ⟨r0, r1⟩ := r
  iintro ⟨HO, R8⟩
  iapply (part9 m K c _ _ _ _ _ _) $$ HC HO S9 B1 D9 S10 B2 D10
  iintro %r
  obtain ⟨r0, r1⟩ := r
  iintro ⟨HO, R9, R10⟩
  iapply (part10 m K c _ _ _ _ _ _ _) $$ HC HO S14 Pl D14 S22 Pr D22
  iintro %r
  obtain ⟨r0, r1⟩ := r
  iintro ⟨HO, R14, R22⟩
  iapply (part11 m K c _ _ _ _ _ _ _) $$ HC HO R11 S15 D15 S23 D23
  iintro %r
  obtain ⟨r0, r1, r2, r3⟩ := r
  iintro ⟨HO, Z11, R15, R23⟩
  iapply (part12 m K c _ _ _ _ _ _ _ _ _) $$ HC HO R12 S16 D16
  iintro %r
  obtain ⟨r0, r1⟩ := r
  iintro ⟨HO, Z12, Pr, R16⟩
  iapply (part13 m K c _ _ _ _ _ _ _) $$ HC HO S24 Pr D24 R13
  iintro %r ⟨HO, R24, Z13, Pl, Pr⟩
  iapply (part14 m K c _ _ _ _ _ _) $$ HC HO S17 Pl D17 S25 Pr D25
  iintro %r
  obtain ⟨r0, r1⟩ := r
  iintro ⟨HO, R17, R25⟩
  iapply (part15 m K c _ _ _ _ _ _ _ _) $$ HC HO R18 S30 D30
  iintro %r
  obtain ⟨r0, r1, r2⟩ := r
  iintro ⟨HO, Z18, R30⟩
  iapply (part16 m K c _ _ _ _ _ _ _ _ _) $$ HC HO R19 S31 D31
  iintro %r
  obtain ⟨r0, r1⟩ := r
  iintro ⟨HO, Z19, R31⟩
  iapply (part17 m K c _ _ _ _ _ _) $$ HC HO R20 R21
  iintro %r ⟨HO, Z20, P20, Z21, P21⟩
  iapply (part18 m K c _ _ _ _) $$ HC HO R26
  iintro %r
  obtain ⟨r0, r1⟩ := r
  iintro ⟨HO, Z26, P26⟩
  iapply (part19 m K c _ _ _ _ _ _) $$ HC HO R27 R28
  iintro %r ⟨HO, Z27, P27, Z28, P28⟩
  iapply (part20 m K c _ _ _ _) $$ HC HO S34 P28 D34
  iintro %r ⟨HO, R34⟩
  iapply (part21 m K c _ _ _ _) $$ HC HO R29 S35 D35
  iintro %r ⟨HO, Z29, R35⟩
  iapply (part22 m K c _ _ _ _) $$ HC HO R32 R33
  iintro %r ⟨HO, Z32, P32, Z33, P33⟩
  iapply (part23 m K c _ _ _ _ _) $$ HC HO R36
  iintro %r ⟨HO, Z36, P36⟩
  iapply (part24 m K c) $$ HC HO R37 R2 R3 R4 R8 R9
  iintro %r ⟨HO, Z37, P37, Z2, P2, Z3, P3, Z4, P4, Z8, P8, Z9, P9⟩
  iapply (part25 m K c) $$ HC HO R10 R14 R22 R15 R23 R16
  iintro %r ⟨HO, Z10, P10, Z14, P14, Z22, P22, Z15, P15, Z23, P23, Z16, P16⟩
  iapply (part26 m K c) $$ HC HO R24 R17 R25 R30 R31 R34
  iintro %r ⟨HO, Z24, P24, Z17, P17, Z25, P25, Z30, P30, Z31, P31, Z34, P34⟩
  iapply (part27 m K c _ _ _ _ _ _ _ _) $$ HC HO R35 U0 U1 U2 U3
  iintro %r
  obtain ⟨r0, r1⟩ := r
  iintro ⟨HO, Z35, P35⟩
  simp only [semSignalWord, semWaitWord, Prog.lift, Prog.bind_op, Prog.bind_ret, Prog.pure_eq_ret]
  iapply (leave m K c (dev28_eq c) 27 rfl ?_) $$ HC HO U4
  · rfl
  iintro HO
  iapply (left m K c ?_) $$ HC HO M1
  · rfl
  iintro ⟨HO, ZZ⟩
  unfold WP
  rw [wp_ret]
  imodintro
  iapply Hk
  ihave HR := (rows_back m c) $$ [BX P2 P3 P4]
  · iframe
  ihave HD := (rd_shares m c).2 $$ [P8 P9 P10]
  · iframe
  ihave HW := (out_back m c) $$ [P14 P22 P15 P23 P16 P24 P17 P25 P30 P31 P20 P21 P26 P27 P34 P35 P32 P33 P36 P37]
  · iframe
  unfold final zeros
  isplitl [HO]; · iexact HO
  isplitr [HA HX HR HD HI HW]
  · iframe
  unfold ia
  iframe
  iexists _
  iexact HI

end Body

end Cert.KernelIdeal.AllReduce

end
-- ==== Proof.IdealLaunch.lean ====
/-
The launch of the all-reduce kernel on the mesh: the semaphores' cells and the arrival rights are made and dealt, every device runs
its body, and what the final memory holds is read off.
-/
module

public import proofs.«01_k».proof.Proof.IdealBody
public import Idealize.ShloMosaic.Lib.Pipeline.CollectiveSegs

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The arrival rights -/

/-- The DMA semaphores a device's own transfers complete on at the source. -/
def ownList : List (Fin 38) := [1, 2, 3, 4, 8, 9, 10, 14, 15, 16, 17, 22, 23, 24, 25, 30, 31, 34, 35]

/-- The 47 arrivals device `c` makes: the 28 at its partners, then its own transfers'. Each is a cell and the number it arrives as. -/
def dueOf (c : Dev nD) (j : Fin 28 ⊕ Fin 19) : GSem nD τ sig × ℕ × Fin 5 :=
  match j with
  | .inl j => (((tgt (payList.get j).1 c : Thread nD τ), (payList.get j).2), 0,
      match (payList.get j).2 with | .reg _ => (payList.get j).1 | .dma _ => 0)
  | .inr j => (((c : Thread nD τ), .dma (ownList.get j)), 0, 0)

/-- The semaphore and the number alone tell the arrivals of a device apart. -/
theorem dueOf_key : ∀ j j' : Fin 28 ⊕ Fin 19, (dueOf 0 j).1.2 = (dueOf 0 j').1.2 → (dueOf 0 j).2.2 = (dueOf 0 j').2.2 → j = j' := by decide +kernel

/-- No two arrivals of the mesh are the same. -/
theorem dueOf_injective : Function.Injective fun cj : Dev nD × (Fin 28 ⊕ Fin 19) => dueOf cj.1 cj.2 := by
  rintro ⟨c, j⟩ ⟨c', j'⟩ h
  have h : dueOf c j = dueOf c' j' := h
  have hk (c : Dev nD) (j : Fin 28 ⊕ Fin 19) : (dueOf c j).1.2 = (dueOf 0 j).1.2 ∧ (dueOf c j).2.2 = (dueOf 0 j).2.2 := by
    cases j <;> exact ⟨rfl, rfl⟩
  have hj : j = j' := dueOf_key j j'
    ((hk c j).1.symm.trans ((congrArg (fun x : GSem nD τ sig × ℕ × Fin 5 => x.1.2) h).trans (hk c' j').1))
    ((hk c j).2.symm.trans ((congrArg (fun x : GSem nD τ sig × ℕ × Fin 5 => x.2.2) h).trans (hk c' j').2))
  subst hj
  have hc := congrArg (fun x : GSem nD τ sig × ℕ × Fin 5 => x.1.1.1) h
  refine Prod.ext ?_ rfl
  cases j with
  | inl j => exact (tgtE (payList.get j).1).injective hc
  | inr j => exact hc

/-- No two of the mesh's semaphores have the same cell. -/
theorem kcell_injective : Function.Injective (kcell : Dev nD × Fin 39 → GSem nD τ sig) := by
  rintro ⟨c, k⟩ ⟨c', k'⟩ h
  have h1 : c = c' := congrArg (fun g : GSem nD τ sig => g.1.1) h
  have hs : ∀ k k' : Fin 39, sl k = sl k' → k = k' := by decide +kernel
  exact Prod.ext h1 (hs k k' (congrArg Prod.snd h))

/-- Every device's 39 cells, -/
def cells : Finset (GSem nD τ sig) := Finset.univ.map ⟨kcell, kcell_injective⟩
/-- and every arrival. -/
def dues : Finset (GSem nD τ sig × ℕ × Fin 5) := Finset.univ.map ⟨_, dueOf_injective⟩

def u₀ : UU := (initOf (Pipeline.cells cfgs cellOf_inj) (Pipeline.launchToks cfgs cellOf_inj), initOf cells dues)

section Deal
variable (c : Dev nD)

/-- The rights of device `c`'s own arrivals. -/
def toks : sProp 𝕄 := bigSep Finset.univ fun j : Fin 28 ⊕ Fin 19 => dutyTok ER (dueOf c j).1 (dueOf c j).2.1 (dueOf c j).2.2
/-- Its positions at its own semaphores. -/
def posts : sProp 𝕄 := bigSep Finset.univ fun k : Fin 39 => atPos ER (kcell (c, k)) 0 ∅ 0
/-- The credit of the transfer awaited on DMA semaphore `n`. -/
def fc (n : Fin 38) : sProp 𝕄 := cred (tallyAt ((c : Thread nD τ), dm n) () (amt (dm n)))

omit [FloatOps F] in
/-- A device's positions at its 39 semaphores, written out. -/
theorem posts_eq : posts (F := F) c = iprop(ps c (.reg (0 : Fin 2)) ∗ ps c (.reg (1 : Fin 2)) ∗ ps c (dm 1) ∗ ps c (dm 2) ∗ ps c (dm 3) ∗ ps c (dm 4) ∗
    ps c (dm 5) ∗ ps c (dm 6) ∗ ps c (dm 7) ∗ ps c (dm 8) ∗ ps c (dm 9) ∗ ps c (dm 10) ∗
    ps c (dm 11) ∗ ps c (dm 12) ∗ ps c (dm 13) ∗ ps c (dm 14) ∗ ps c (dm 15) ∗ ps c (dm 16) ∗
    ps c (dm 17) ∗ ps c (dm 18) ∗ ps c (dm 19) ∗ ps c (dm 20) ∗ ps c (dm 21) ∗ ps c (dm 22) ∗
    ps c (dm 23) ∗ ps c (dm 24) ∗ ps c (dm 25) ∗ ps c (dm 26) ∗ ps c (dm 27) ∗ ps c (dm 28) ∗
    ps c (dm 29) ∗ ps c (dm 30) ∗ ps c (dm 31) ∗ ps c (dm 32) ∗ ps c (dm 33) ∗ ps c (dm 34) ∗
    ps c (dm 35) ∗ ps c (dm 36) ∗ ps c (dm 37)) :=
  bigSep_univ_eq_bigSepL (List.finRange 39) (by decide) (by decide) _

omit [FloatOps F] in
/-- The rights of a device's 47 arrivals, written out. -/
theorem toks_eq : toks (F := F) c = iprop(tk (tgt 0 c) (.reg (0 : Fin 2)) 0 ∗ tk (tgt 1 c) (.reg (0 : Fin 2)) 1 ∗ tk (tgt 2 c) (.reg (0 : Fin 2)) 2 ∗ tk (tgt 3 c) (.reg (0 : Fin 2)) 3 ∗
    tk (tgt 4 c) (.reg (0 : Fin 2)) 4 ∗ tk (tgt 0 c) (dm 5) 0 ∗ tk (tgt 1 c) (dm 6) 0 ∗ tk (tgt 2 c) (dm 7) 0 ∗
    tk (tgt 0 c) (dm 11) 0 ∗ tk (tgt 1 c) (dm 12) 0 ∗ tk (tgt 2 c) (dm 13) 0 ∗ tk (tgt 3 c) (dm 18) 0 ∗
    tk (tgt 4 c) (dm 26) 0 ∗ tk (tgt 3 c) (dm 19) 0 ∗ tk (tgt 4 c) (dm 27) 0 ∗ tk (tgt 3 c) (dm 20) 0 ∗
    tk (tgt 4 c) (dm 28) 0 ∗ tk (tgt 3 c) (dm 21) 0 ∗ tk (tgt 4 c) (dm 29) 0 ∗ tk (tgt 4 c) (dm 32) 0 ∗
    tk (tgt 4 c) (dm 33) 0 ∗ tk (tgt 3 c) (dm 36) 0 ∗ tk (tgt 3 c) (dm 37) 0 ∗ tk (tgt 0 c) (.reg (1 : Fin 2)) 0 ∗
    tk (tgt 1 c) (.reg (1 : Fin 2)) 1 ∗ tk (tgt 2 c) (.reg (1 : Fin 2)) 2 ∗ tk (tgt 3 c) (.reg (1 : Fin 2)) 3 ∗ tk (tgt 4 c) (.reg (1 : Fin 2)) 4 ∗
    tk c (dm 1) 0 ∗ tk c (dm 2) 0 ∗ tk c (dm 3) 0 ∗ tk c (dm 4) 0 ∗
    tk c (dm 8) 0 ∗ tk c (dm 9) 0 ∗ tk c (dm 10) 0 ∗ tk c (dm 14) 0 ∗
    tk c (dm 15) 0 ∗ tk c (dm 16) 0 ∗ tk c (dm 17) 0 ∗ tk c (dm 22) 0 ∗
    tk c (dm 23) 0 ∗ tk c (dm 24) 0 ∗ tk c (dm 25) 0 ∗ tk c (dm 30) 0 ∗
    tk c (dm 31) 0 ∗ tk c (dm 34) 0 ∗ tk c (dm 35) 0) := by
  unfold toks
  rw [bigSep_univ_eq_bigSepL [.inl 0, .inl 1, .inl 2, .inl 3, .inl 4, .inl 5, .inl 6, .inl 7, .inl 8, .inl 9, .inl 10, .inl 11, .inl 12, .inl 13, .inl 14, .inl 15, .inl 16, .inl 17, .inl 18, .inl 19, .inl 20, .inl 21, .inl 22, .inl 23, .inl 24, .inl 25, .inl 26, .inl 27,
    .inr 0, .inr 1, .inr 2, .inr 3, .inr 4, .inr 5, .inr 6, .inr 7, .inr 8, .inr 9, .inr 10, .inr 11, .inr 12, .inr 13, .inr 14, .inr 15, .inr 16, .inr 17, .inr 18] (by decide +kernel) (by decide +kernel)]
  rfl

/-- The semaphores a device waits at for others. -/
def waitList : List (SemLoc sig) := [.reg (0 : Fin 2), .reg (1 : Fin 2), dm 5, dm 6, dm 7, dm 11, dm 12, dm 13, dm 18, dm 19, dm 20, dm 21, dm 26, dm 27, dm 28, dm 29, dm 32, dm 33, dm 36, dm 37]

/-- What device `c` owes over the mesh at a semaphore: one arrival's worth per entry of the list. -/
theorem owed_sum (l : List (Fin 5 × SemLoc sig)) (s : SemLoc sig) :
    ∑ d : Dev nD, oweL d l ((c : Thread nD τ), s) () = (l.filter fun x => x.2 = s).length * amt s := by
  induction l with
  | nil => exact (Finset.sum_const_zero).trans (Nat.zero_mul _).symm
  | cons x l ih =>
    have hx : ∀ d : Dev nD, oweL d (x :: l) ((c : Thread nD τ), s) () = oweL d l ((c : Thread nD τ), s) ()
        + if d = tgtInv x.1 c then (if x.2 = s then amt s else 0) else 0 := fun d => by
      show (oweL d l + tallyAt ((tgt x.1 d : Thread nD τ), x.2) () (amt x.2)) ((c : Thread nD τ), s) () = _
      rw [Pi.add_apply, Finsupp.add_apply, tallyAt_apply]
      congr 1
      by_cases hs : x.2 = s
      · by_cases hd : d = tgtInv x.1 c
        · rw [if_pos hd, if_pos hs, if_pos ⟨by rw [hd, tgt_tgtInv, hs], rfl⟩, hs]
        · rw [if_neg hd, if_neg fun h => hd (by
            rw [show c = tgt x.1 d from congrArg (fun g : GSem nD τ sig => g.1.1) h.1, tgtInv_tgt])]
      · rw [if_neg hs, ite_self, if_neg fun h => hs (congrArg Prod.snd h.1).symm]
    rw [Finset.sum_congr rfl fun d _ => hx d, Finset.sum_add_distrib, ih, Finset.sum_ite_eq' Finset.univ, if_pos (Finset.mem_univ _), List.filter_cons]
    by_cases hs : x.2 = s
    · rw [if_pos hs, if_pos (decide_eq_true hs), List.length_cons, Nat.succ_mul]
    · rw [if_neg hs, if_neg (by simpa using hs), Nat.add_zero]

/-- What every device is owed at a semaphore at launch. -/
def crd (s : SemLoc sig) : ℕ :=
  match s with
  | .reg _ => 5
  | .dma n => amt (.dma n)

/-- Each device is owed five arrivals at a barrier and one transfer at a DMA semaphore it waits at for others. -/
theorem count_wait : ∀ s ∈ waitList, (payList.filter fun x => x.2 = s).length = match s with | .reg _ => 5 | .dma _ => 1 := by decide +kernel

/-- The launch credit at a semaphore a device waits at for others is what it awaits there. -/
theorem launch_at (s : SemLoc sig) (hs : s ∈ waitList) :
    tallyOn ((c : Thread nD τ), s) (launchCredit (Pipeline.owing fun d => oweL d payList) 0 ((c : Thread nD τ), s))
      = (tallyAt ((c : Thread nD τ), s) () (crd s) : CellTallies nD τ sig Unit) := by
  unfold tallyAt
  refine congrArg _ (Finsupp.ext fun u => ?_)
  cases u
  rw [Pipeline.launchCredit_owing, Finsupp.single_eq_same, owed_sum, count_wait s hs]
  cases s with
  | reg s => rfl
  | dma n => exact Nat.one_mul _

/-- The launch credit a device's waits take. -/
theorem creds : (Pipeline.launchCred (fun d => oweL d payList) c : sProp 𝕄) ⊢ iprop(cred (tallyAt ((c : Thread nD τ), .reg (0 : Fin 2)) () 5) ∗ cred (tallyAt ((c : Thread nD τ), .reg (1 : Fin 2)) () 5) ∗ fc c 5 ∗
    fc c 6 ∗ fc c 7 ∗ fc c 11 ∗
    fc c 12 ∗ fc c 13 ∗ fc c 18 ∗
    fc c 19 ∗ fc c 20 ∗ fc c 21 ∗
    fc c 26 ∗ fc c 27 ∗ fc c 28 ∗
    fc c 29 ∗ fc c 32 ∗ fc c 33 ∗
    fc c 36 ∗ fc c 37) := by
  have h : (bigSepL waitList fun s => cred (tallyAt ((c : Thread nD τ), s) () (crd s)) : sProp 𝕄) = iprop(cred (tallyAt ((c : Thread nD τ), .reg (0 : Fin 2)) () 5) ∗ cred (tallyAt ((c : Thread nD τ), .reg (1 : Fin 2)) () 5) ∗ fc c 5 ∗
    fc c 6 ∗ fc c 7 ∗ fc c 11 ∗
    fc c 12 ∗ fc c 13 ∗ fc c 18 ∗
    fc c 19 ∗ fc c 20 ∗ fc c 21 ∗
    fc c 26 ∗ fc c 27 ∗ fc c 28 ∗
    fc c 29 ∗ fc c 32 ∗ fc c 33 ∗
    fc c 36 ∗ fc c 37) := rfl
  rw [← h, ← bigSep_eq_bigSepL waitList (by decide +kernel)]
  unfold Pipeline.launchCred
  have hsub (Φ : SemLoc sig → sProp 𝕄) : bigSep Finset.univ Φ ⊢ bigSep waitList.toFinset Φ := BI.bigSep_subset (Finset.subset_univ _)
  refine (hsub _).trans (Entails.of_eq (bigSep_congr fun s hs => ?_))
  rw [launch_at c s (List.mem_toFinset.mp hs)]

/-- A device's positions, arrival rights and launch credit are all it starts with. -/
theorem gear_intro : iprop(posts (F := F) c ∗ toks c ∗ Pipeline.launchCred (fun d => oweL d payList) c) ⊢ gear c := by
  rw [posts_eq, toks_eq]
  unfold gear mt snd rv
  iintro ⟨⟨P0, P1, P2, P3, P4, P5, P6, P7, P8, P9, P10, P11, P12, P13, P14, P15, P16, P17, P18, P19, P20, P21, P22, P23, P24, P25, P26, P27, P28, P29, P30, P31, P32, P33, P34, P35, P36, P37, P38⟩,
    ⟨T0, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46⟩, HC⟩
  ihave HC := (creds c) $$ HC
  unfold fc
  icases HC with ⟨C0, C1, C2, C3, C4, C5, C6, C7, C8, C9, C10, C11, C12, C13, C14, C15, C16, C17, C18, C19⟩
  iframe

/-! ## From the launch element to every device's start -/

/-- What the launch element deals device `c`: its cells' round states, its positions, that its rounds are reached, and its rights. -/
def G : sProp 𝕄 :=
  iprop((bigSep Finset.univ fun k : Fin 39 => roundState ER (rdS m) (kcell (c, k)) 0)
    ∗ (posts c ∗ bigSep Finset.univ fun k : Fin 39 => reached ER (kcell (c, k)) 0) ∗ toks c)

/-- Every cell's invariant, and that its round is reached. -/
def known (K : Dev nD × Fin 39 → ℕ) : sProp 𝕄 :=
  iprop((bigSep Finset.univ fun ck : Dev nD × Fin 39 => cellInv ER (rdS m) (K ck) (kcell ck))
    ∗ bigSep Finset.univ fun ck : Dev nD × Fin 39 => reached ER (kcell ck) 0)

instance known_persistent (K : Dev nD × Fin 39 → ℕ) : BI.Persistent (known m K) := by unfold known; infer_instance

/-- What every device holds once all cells are made. -/
def G' : sProp 𝕄 := iprop((∃ K, known m K) ∗ posts c ∗ toks c)

end Deal

/-- The launch element deals every device its share. -/
theorem fund_cells : BI.own (ER (initOf cells dues)) ⊢ (|==> bigSep Finset.univ (G m) : sProp 𝕄) := by
  have hX (Φ : GSem nD τ sig → sProp 𝕄) : bigSep cells Φ = bigSep Finset.univ fun c : Dev nD => bigSep Finset.univ fun k : Fin 39 => Φ (kcell (c, k)) := by
    unfold cells; rw [bigSep_map, bigSep_univ_prod]; rfl
  have hT : bigSep dues (fun x => (dutyTok ER x.1 x.2.1 x.2.2 : sProp 𝕄)) = bigSep Finset.univ fun c : Dev nD => toks c := by
    unfold dues; rw [bigSep_map, bigSep_univ_prod]; rfl
  iintro HX
  imod (Rounds.fund ER (rdS m) cells dues) $$ HX with ⟨Hst, Hr, Hat, Htok⟩
  imodintro
  ihave Hst' := (Entails.of_eq (hX fun g => roundState ER (rdS m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posts; simp only [bigSep_sep']
  isplitl [Hst']; · iexact Hst'
  isplitl [Hat' Hr']
  · isplitl [Hat'] <;> iassumption
  iexact Htok'

/-- The semaphores the launch lends the kernel: its exit barrier's and its DMA semaphores. -/
def osem (k : Fin 38) : SemLoc sig := sl k.succ

/-- The lent semaphores are scoped, distinct, and none of the staging's. -/
theorem ownSemFacts : Pipeline.OwnSemFacts cfg0.spec osem := by decide +kernel

section Sems
variable (c : Dev nD)

omit [FloatOps F] in
/-- The lent semaphores at zero, written out. -/
theorem ownSems0_eq : (Pipeline.ownSems0 (Ix := Unit) (Name := ℕ) (U := UU) (Lvl := ℕ) (Val := Elt F) (τ := τ) osem c : sProp 𝕄)
    = iprop(sz c (.reg (1 : Fin 2)) ∗ sz c (dm 1) ∗ sz c (dm 2) ∗ sz c (dm 3) ∗ sz c (dm 4) ∗ sz c (dm 5) ∗
    sz c (dm 6) ∗ sz c (dm 7) ∗ sz c (dm 8) ∗ sz c (dm 9) ∗ sz c (dm 10) ∗ sz c (dm 11) ∗
    sz c (dm 12) ∗ sz c (dm 13) ∗ sz c (dm 14) ∗ sz c (dm 15) ∗ sz c (dm 16) ∗ sz c (dm 17) ∗
    sz c (dm 18) ∗ sz c (dm 19) ∗ sz c (dm 20) ∗ sz c (dm 21) ∗ sz c (dm 22) ∗ sz c (dm 23) ∗
    sz c (dm 24) ∗ sz c (dm 25) ∗ sz c (dm 26) ∗ sz c (dm 27) ∗ sz c (dm 28) ∗ sz c (dm 29) ∗
    sz c (dm 30) ∗ sz c (dm 31) ∗ sz c (dm 32) ∗ sz c (dm 33) ∗ sz c (dm 34) ∗ sz c (dm 35) ∗
    sz c (dm 36) ∗ sz c (dm 37)) :=
  Pipeline.ownSems0_eq_of_list c osem (List.finRange 38) (by decide) (by decide)

omit [FloatOps F] in
/-- The entry barrier's semaphore is the mesh's own. -/
theorem unscopedSems0_eq : (unscopedSems0 c : sProp 𝕄) = sz c (.reg (0 : Fin 2)) := by
  unfold unscopedSems0; rw [bigSep_eq_bigSepL_of_eq [SemLoc.reg (0 : Fin 2)] (by decide) (by decide)]; rfl

omit [FloatOps F] in
/-- All 39 semaphores at zero, written out. -/
theorem sems0_eq : (bigSep Finset.univ fun k : Fin 39 => semVal (kcell (c, k)) 0 : sProp 𝕄)
    = iprop(sz c (.reg (0 : Fin 2)) ∗ sz c (.reg (1 : Fin 2)) ∗ sz c (dm 1) ∗ sz c (dm 2) ∗ sz c (dm 3) ∗ sz c (dm 4) ∗ sz c (dm 5) ∗
    sz c (dm 6) ∗ sz c (dm 7) ∗ sz c (dm 8) ∗ sz c (dm 9) ∗ sz c (dm 10) ∗ sz c (dm 11) ∗
    sz c (dm 12) ∗ sz c (dm 13) ∗ sz c (dm 14) ∗ sz c (dm 15) ∗ sz c (dm 16) ∗ sz c (dm 17) ∗
    sz c (dm 18) ∗ sz c (dm 19) ∗ sz c (dm 20) ∗ sz c (dm 21) ∗ sz c (dm 22) ∗ sz c (dm 23) ∗
    sz c (dm 24) ∗ sz c (dm 25) ∗ sz c (dm 26) ∗ sz c (dm 27) ∗ sz c (dm 28) ∗ sz c (dm 29) ∗
    sz c (dm 30) ∗ sz c (dm 31) ∗ sz c (dm 32) ∗ sz c (dm 33) ∗ sz c (dm 34) ∗ sz c (dm 35) ∗
    sz c (dm 36) ∗ sz c (dm 37)) :=
  bigSep_univ_eq_bigSepL (List.finRange 39) (by decide) (by decide) _

/-- One device's semaphores at zero and its dealt round states become its cells' invariants. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rdS m) κ (kcell (c, k))))
          ∗ (posts c ∗ bigSep Finset.univ fun k : Fin 39 => reached ER (kcell (c, k)) 0) ∗ toks c) := by
  unfold G
  rw [ownSems0_eq, unscopedSems0_eq]
  iintro ⟨Hos, Hus, Hst, Hat, Htok⟩
  ihave Hv := (Entails.of_eq (sems0_eq (F := F) c).symm) $$ [Hos Hus]
  · isplitl [Hus] <;> iassumption
  imod (show iprop((bigSep Finset.univ fun k : Fin 39 => semVal (kcell (c, k)) 0) ∗ bigSep Finset.univ fun k : Fin 39 => roundState ER (rdS m) (kcell (c, k)) 0)
      ⊢ (|={Set.univ}=> bigSep Finset.univ fun k => iprop(∃ κ : ℕ, cellInv ER (rdS m) κ (kcell (c, k))) : sProp 𝕄) from by
        rw [← bigSep_sep']
        exact (bigSep_mono fun k _ => (Rounds.body_intro ER (rdS m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Sems

/-- One device's part of what all know, with its own positions and rights. -/
theorem known_intro (K : Dev nD × Fin 39 → ℕ) (c : Dev nD) : iprop(known m K ∗ posts c ∗ toks c) ⊢ G' m c := by
  unfold G'
  iintro ⟨HK, HP, HT⟩
  isplitl [HK]; · iexists K; iexact HK
  isplitl [HP] <;> iassumption

/-- Every device's invariants, put together, are known to every device. -/
theorem regroup :
    (bigSep Finset.univ fun c : Dev nD => iprop((bigSep Finset.univ fun k => iprop(∃ κ : ℕ, cellInv ER (rdS m) κ (kcell (c, k))))
          ∗ (posts c ∗ bigSep Finset.univ fun k : Fin 39 => reached ER (kcell (c, k)) 0) ∗ toks c) : sProp 𝕄)
      ⊢ bigSep Finset.univ (G' m) := by
  rw [bigSep_sep', bigSep_sep', bigSep_sep', ← bigSep_univ_prod (fun ck : Dev nD × Fin 39 => iprop(∃ κ : ℕ, cellInv ER (rdS m) κ (kcell ck))),
    ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (rdS m) κ (kcell ck) : sProp 𝕄))) $$ HI
  icases HK with ⟨%K, #HI⟩
  have hG : iprop(known m K ∗ (bigSep Finset.univ fun c : Dev nD => posts (F := F) c) ∗ bigSep Finset.univ fun c : Dev nD => toks (F := F) c)
      ⊢ bigSep Finset.univ (G' m) := by
    rw [← bigSep_sep']
    refine (sep_mono_left (BI.bigSep_of_persistent (Finset.univ : Finset (Dev nD)) (known m K))).trans ?_
    rw [← bigSep_sep']
    exact bigSep_mono fun c _ => known_intro m K c
  iapply hG
  isplitr
  · unfold known
    isplitl; · iexact HI
    iexact HR
  isplitl [Hat] <;> iassumption

/-- All devices' cells are made at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The proof data, and the body -/

section Run
variable (c : Dev nD)

/-- A device's start: everything but its staging and scratch buffers. -/
def start : sProp 𝕄 :=
  iprop(G' m c ∗ Pipeline.launchCred (fun d => oweL d payList) c ∗ levAts L lv ∗ (((c : Thread nD τ).loc main_arg0) ↦{fullShare} X m c))

/-- Scratch buffer number 0 at whatever it holds, and scratch buffer number 2. -/
def free0 : sProp 𝕄 := iprop(∃ f : Buf (Elt F) ((c : Thread nD τ).loc cc0_scratch0), ((c : Thread nD τ).loc cc0_scratch0) ↦{fullShare} f)
def free1 : sProp 𝕄 := iprop(∃ f : Buf (Elt F) ((c : Thread nD τ).loc cc0_scratch1), ((c : Thread nD τ).loc cc0_scratch1) ↦{fullShare} f)
def free2 : sProp 𝕄 := iprop(∃ f : Buf (Elt F) ((c : Thread nD τ).loc cc0_scratch2), ((c : Thread nD τ).loc cc0_scratch2) ↦{fullShare} f)
/-- The four scratch buffers. -/
def scratch : sProp 𝕄 := iprop(free0 (F := F) c ∗ free1 c ∗ free2 c ∗ ia c)

def Φ₀ : sProp 𝕄 := iprop(start m c ∗ scratch c)
/-- After the body: every semaphore at zero, the argument as it was. -/
def Φ₁ : sProp 𝕄 := iprop(zeros c ∗ (((c : Thread nD τ).loc main_arg0) ↦{fullShare} X m c) ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => oweL c payList
    | ⟨_ + 1, _⟩ => 0

omit [FloatOps F] in
/-- Owning a whole buffer at contents `X` is holding all of its elements, at `X`. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The result's staging buffer at `X`. -/
def stg (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre : sProp 𝕄 :=
  iprop(Φ₀ m c ∗ (dats m ρ 0 c).owesAt () t0_0.castSucc ∗ (∃ d, stg c ((dats m ρ 0 c).before (0 : Fin 1) t0_0 d)))
def bodyPost : sProp 𝕄 :=
  iprop(Φ₁ m c ∗ (dats m ρ 0 c).owesAt () t0_0.succ ∗ stg c (outV m))

/-- From its start a device's body runs to its end, having paid everything and left the result in the staging buffer. -/
theorem sound_body : bodyPre m ρ c ⊢ WP c (args (cc0_body (F := F))) (fun _ => bodyPost m ρ c) := by
  unfold bodyPre Φ₀ start G' scratch stg Dat.owesAt Pipeline.owesWithin
  rw [show (dats m ρ 0 c).owed t0_0.castSucc = oweL c payList from rfl]
  iintro ⟨⟨⟨⟨⟨%K, #HK⟩, HP, HT⟩, HC, #HL, HA⟩, S0, S1, S2, S3⟩, ⟨%W, %hW, HO⟩, ⟨%d, %g, %hg, HW⟩⟩
  ihave HG := (gear_intro (F := F) c) $$ [HP HT HC]
  · isplitl [HP]; · iexact HP
    isplitl [HT] <;> iassumption
  ihave HA := (pointsTo_split_subset (Finset.subset_univ (argM c).view.set)).1 $$ HA
  icases HA with ⟨HA, HB⟩
  iapply (run m K c (bodyPost m ρ c)) $$ [] [HO] HG [HA] [S0] [S1] [S2] S3 [HW] [HB]
  · unfold Ctx
    isplitr
    · unfold known; iexact HK
    iexact HL
  · unfold ow; iexists W; iexact HO
  · unfold xa; iexact HA
  · unfold qa; unfold free0; iexact S0
  · unfold ra; unfold free1; iexact S1
  · unfold da; unfold free2; iexact S2
  · unfold wa; iexists g; iexact HW
  unfold final bodyPost Φ₁ scratch Dat.owesAt Pipeline.owesWithin ow
  rw [show (dats m ρ 0 c).owed t0_0.succ = 0 from rfl]
  iintro ⟨⟨%W', HO⟩, HZ, HA, S0, S1, S2, S3, HW⟩
  isplitl [HZ HA HB S0 S1 S2 S3]
  · isplitl [HZ]; · iexact HZ
    isplitl [HA HB]
    · iapply (pointsTo_split_subset (Finset.subset_univ (argM c).view.set)).2
      isplitl [HA]
      · unfold xa; iexact HA
      iexact HB
    isplitl [S0]
    · unfold free0 xq; iexists _; iexact S0
    isplitl [S1]
    · unfold ra; unfold free1; iexact S1
    isplitl [S2]
    · unfold free2 rd; iexists _; iexact S2
    iexact S3
  isplitl [HO]
  · iexists W'
    isplitr; · ipureintro; exact fun _ _ => Or.inl trivial
    iexact HO
  unfold stg
  iexists _
  isplitr
  · ipureintro; rfl
  iexact HW

/-- The library's body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  exact sound_body m ρ c

end Run

/-! ## The theorem's side conditions -/

/-- Every window's array is held whole. -/
theorem share_eq (c : Dev nD) (w : Fin cfg0.W) : (dats m ρ 0 c).share w = fullShare := by unfold Dat.share; split <;> rfl

/-- What the launch gives a device is its start. -/
theorem start_intro (c : Dev nD) :
    iprop(Pipeline.unscopedRestP Pipeline.Prefetch.none cfg0.spec c (fun b => m ((c : Thread nD τ).loc b)) ∗ levAts L lv
        ∗ Pipeline.launchCred (fun d => oweL d payList) c ∗ prngReg c (ρ c) ∗ G' m c)
      ⊢ |={Set.univ}=> iprop(start m c ∗ emp) := by
  rw [Pipeline.unscopedRestP_none, unscopedRest0_eq]
  iintro ⟨HA, Hlev, Hcr, -, HG⟩
  imodintro
  unfold start
  isplitl
  · isplitl [HG]; · iexact HG
    isplitl [Hcr]; · iexact Hcr
    isplitl [Hlev]; · iexact Hlev
    iexact HA
  · iempintro

/-- The start and the scratch buffers are what the body begins with. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch free0 free1 free2 ia
  iintro ⟨Hs, -, Hr⟩
  isplitl [Hs]; · iexact Hs
  iexact Hr

/-- What is left beside the scoped memory: the entry barrier's semaphore at zero and the argument as it was. -/
def left_over (c : Dev nD) : sProp 𝕄 := iprop(unscopedSems0 c ∗ (((c : Thread nD τ).loc main_arg0) ↦{fullShare} X m c))

/-- What the body ends with gives back the lent semaphores at zero and the scratch buffers. -/
theorem phi1_exit (c : Dev nD) :
    (dats m ρ 0 c).Φ (Fin.last cfg0.N) ⊢ iprop(left_over m c ∗ Pipeline.ownSems0 osem c ∗ Pipeline.scopedRest cfg0.spec c) := by
  rw [show (dats m ρ 0 c).Φ (Fin.last cfg0.N) = Φ₁ m c from rfl, scopedRest0_eq, ownSems0_eq]
  unfold left_over
  rw [unscopedSems0_eq]
  unfold Φ₁ zeros scratch free0 free1 free2 ia
  iintro ⟨⟨HB, HZ⟩, HA, Hr⟩
  isplitl [HB HA]
  · isplitl [HB]; · iexact HB
    iexact HA
  isplitl [HZ]; · iexact HZ
  iexact Hr

/-- The result's staging semaphore lies below everything a device owes, so its waits are allowed. -/
theorem waits (c : Dev nD) : (levAts L lv : sProp 𝕄) ⊢ Pipeline.cellsWaits cfgs (dats m ρ) () 0 c :=
  Pipeline.cellsWaits_intro cfgs (dats m ρ) () 0 c fun w s t => by
    have hs : ((cfgs 0).win w).sem s = (0 : Fin 38) := by fin_cases w <;> fin_cases s <;> rfl
    have h0 : ∀ x ∈ payList, lvl (.dma (0 : Fin 38)) < lvl x.2 := by decide +kernel
    rcases t with ⟨_ | _, ht⟩
    · exact hs ▸ mayWait c (.dma (0 : Fin 38)) payList h0
    · exact hs ▸ mayWait c (.dma (0 : Fin 38)) [] (fun x hx => absurd hx List.not_mem_nil)

/-! ## The run -/

/-- What device `c`'s result array ends holding. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

/-- What is left tells the final state: the counters that outlive the call are zero and the argument is as it was. -/
theorem read_left (c : Dev nD) (s' : Phys nD τ sig (Elt F)) : iprop(left_over m c ∗ emp ∗ SI s')
    ⊢ |={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') := by
  unfold left_over
  iintro ⟨⟨Hu, HA⟩, -, HSI⟩
  icombine HSI HA gives %h
  imod (Pipeline.unscopedSems0_read (X := unscopedSems0 c) (c := c) fupd_intro s') $$ [Hu HSI] with ⟨%hz, HSI⟩
  · isplitl [Hu] <;> iassumption
  imodintro
  isplitr
  · ipureintro; exact ⟨hz, funext fun i => h i (Finset.mem_univ i)⟩
  iexact HSI

/-- For any float values, from any memory with zero counters: every weakly fair execution of the kernel on the mesh
    terminates, and every final state has each device's result at the computed contents, its argument unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := fun d => oweL d payList) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left_over m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_left m)
    (hQ := fun _ h hs => ⟨fun c => ⟨(h c).1, (h c).2.2.2⟩, sem_eq_zero hs fun c => (h c).2.2.1⟩)

/-- The result's one block is the whole array, so the array ends holding what the body leaves in its staging buffer. -/
theorem finalA_out (c : Dev nD) : finalA m ρ c (0 : Fin 1) = outV m := by
  unfold finalA
  rw [show cfg0.N = t0_0.val + 1 from rfl, (dats m ρ 0 c).arrAt_succ (0 : Fin 1) t0_0, flush0_0, if_pos rfl]
  exact Memref.write_access_unit_zero_univ (Elt F) main_v1 (funext fun a => Nat.zero_mul _) _ _ _

/-- The run, read: each device's result, its argument unchanged, every counter at zero. -/
theorem run_result : θ_run defs (onTc (τ := τ) (main (F := F))) ⟨m, fun _ => 0, ρ⟩ (fun r =>
    (∀ c : Dev nD, r.2.mem ((c.tc : Thread nD τ).loc main_v1) = outV m
      ∧ r.2.mem ((c.tc : Thread nD τ).loc main_arg0) = m ((c.tc : Thread nD τ).loc main_arg0)) ∧ r.2.sem = fun _ => 0) :=
  (θ_run defs _ _).mono (fun _ h => ⟨fun c => ⟨((h.1 c).1 (0 : Fin 1)).trans (finalA_out m ρ c), (h.1 c).2⟩, h.2⟩) (run_main m ρ)

end Cert.KernelIdeal.AllReduce

end
-- ==== Proof.IdealValue.lean ====
/-
What the kernel leaves, over the extended reals: the sum of the argument's four slabs of 4096 rows, which is what the
reference's reduction computes.

A device holds the slab its `z` coordinate names. Row `row` of the result lies in the block of device `row / 256`, which
adds that row of its own slab and of the slabs of the three devices below it in its column: each slab once.
-/
module

public import proofs.«01_k».proof.Proof.IdealLaunch
public import proofs.«01_k».proof.Proof.Gen.ReferenceIdeal.Run
public import Idealize.ShloMosaic.Lib.Layout
public import Idealize.ShloMosaic.Lib.ValueLayout
public import Idealize.ShloMosaic.Lib.IdealHost
public import Idealize.ShloMosaic.Lib.Pointwise.Reduce
public import Idealize.ShloMosaic.PureOps.IdealRules

@[expose] public section

set_option maxRecDepth 16384

noncomputable section

namespace Cert.KernelIdeal.AllReduce

open Cert.KernelIdeal Cert.KernelIdeal.Gen
open Idealize.ShloMosaic hiding ix2 ix3
open Idealize.ShloMosaic.TcCoe
open Idealize.ShloMosaic.ValueIdx (ix2 ix3)
open scoped BigOperators

/-! ## The reference's value -/

/-- Row `row` of slab `z` of the whole argument, at column `col`. -/
def slab (A : Cert.ReferenceIdeal.S16384x1024.Idx → EReal) (z : Fin 4) (row : Fin 4096) (col : Fin 1024) : EReal :=
  A (ix2 (n0 := 16384) (n1 := 1024) ⟨4096 * z.val + row.val, by omega⟩ col)

/-- The sum the result holds: each element is the sum of the four slabs' elements at its place. -/
def slabSum (A : Cert.ReferenceIdeal.S16384x1024.Idx → EReal) (j : S4096x1024.Idx) : EReal := ∑ z : Fin 4, slab A z (j 0) (j 1)

/-- The reference's operations, composed, compute that sum. -/
theorem reference_value (A : Vec Ideal Cert.ReferenceIdeal.S16384x1024 .f32) :
    truncf (F := Ideal) .bf16 (Host.reduceAdd (shapeCast _ A Cert.ReferenceIdeal.Gen.shapeCasts_S16384x1024_S4x4096x1024)
        (constant Cert.ReferenceIdeal.S_ .f32 0x00000000#32) Cert.ReferenceIdeal.Gen.reducesTo_S4x4096x1024_S4096x1024_d0
        Cert.ReferenceIdeal.Gen.h_S_) Cert.ReferenceIdeal.Gen.bitsLt_bf16_f32 = slabSum A := by
  funext j
  refine Eq.trans (b := Ideal.hostReduceAdd Cert.ReferenceIdeal.Gen.reducesTo_S4x4096x1024_S4096x1024_d0
    (shapeCast Cert.ReferenceIdeal.S4x4096x1024 A Cert.ReferenceIdeal.Gen.shapeCasts_S16384x1024_S4x4096x1024) (Ideal.ofBits .f32 0x00000000#32) j) rfl ?_
  rw [Ideal.ofBits_zero_f32]
  refine (Ideal.hostReduceAdd_r3_a0 _ _ _ j).trans ((zero_add _).trans (Finset.sum_congr rfl fun z _ => ?_))
  refine shapeCast_apply A _ _ (ix2 (n0 := 16384) (n1 := 1024) ⟨4096 * z.val + (j 0).val, _⟩ (j 1)) ?_
  rw [Shape.rowMajor_val_two, Shape.rowMajor_val_three]
  show (4096 * z.val + (j 0).val) * 1024 + (j 1).val = (z.val * 4096 + (j 0).val) * 1024 + (j 1).val
  rw [Nat.mul_comm 4096]

/-! ## The kernel's value -/

variable (m : (ℓ : Loc nD τ sig) → Buf (Elt Ideal) ℓ)

/-- The element at `row`, `col` of the quarter device `c` copies in. -/
def quarterAt (c : Dev nD) (row col : Fin 1024) : EReal := xqV m c (ix2 (n0 := 1024) (n1 := 1024) row col)
/-- The element at `k`, `col` of slot `j` of device `c`'s receive buffer. -/
def slotAt (c : Dev nD) (j : Fin 3) (k : Fin 256) (col : Fin 1024) : EReal :=
  rsV m c (ix3 (n0 := 3) (n1 := 256) (n2 := 1024) j k col)

/-- What a device sums, element by element: its own element of the quarter and the three slots' elements. -/
theorem redV_apply (c : Dev nD) (k : Fin 256) (col : Fin 1024) :
    redV m c (ix2 (n0 := 256) (n1 := 1024) k col)
      = quarterAt m c ⟨256 * (c.val % 4) + k.val, by omega⟩ col + slotAt m c 0 k col + slotAt m c 1 k col + slotAt m c 2 k col := by
  have slotEq : ∀ (j : Fin 3) (off : Fin 3 → ℕ) (inb : ∀ a, off a + S1x256x1024.size a ≤ S3x256x1024.size a), off = ![j.val, 0, 0] →
      shapeCast S256x1024 ((Memref.whole cc0_scratch3 : Memref sig .tc .vmem S3x256x1024 .bf16).view.readAt (Elt Ideal)
        (Rect.unit (s := S3x256x1024) off S1x256x1024.size inb).toLoadRect (rsV m c)) shapeCasts_S1x256x1024_S256x1024
        (ix2 (n0 := 256) (n1 := 1024) k col) = rsV m c (ix3 (n0 := 3) (n1 := 256) (n2 := 1024) j k col) := by
    intro j off inb h
    subst h
    refine (ValueIdx.shapeCast_1ab_ab_apply _ _ k col).trans (congrArg (rsV m c) (funext fun a => Fin.ext ?_))
    fin_cases a
    · show j.val + 1 * 0 = j.val; omega
    · show 0 + 1 * k.val = k.val; omega
    · show 0 + 1 * col.val = col.val; omega
  have own : ((Memref.whole cc0_scratch0 : Memref sig .tc .vmem S1024x1024 .f32).view.readAt (Elt Ideal)
      (Rect.unit (s := S1024x1024) (k0_off3 c) S256x1024.size (k0_off3_inb c)).toLoadRect (xqV m c)) (ix2 (n0 := 256) (n1 := 1024) k col)
      = xqV m c (ix2 (n0 := 1024) (n1 := 1024) ⟨256 * (c.val % 4) + k.val, by omega⟩ col) := by
    have h := k0_off3_eq c
    refine congrArg (xqV m c) (funext fun a => Fin.ext ?_)
    fin_cases a
    · show k0_off3 c 0 + 1 * k.val = 256 * (c.val % 4) + k.val
      rw [h]; show 256 * (c.val % 4) + 1 * k.val = _; omega
    · show k0_off3 c 1 + 1 * col.val = col.val
      rw [h]; show 0 + 1 * col.val = _; omega
  have s0 := slotEq 0 _ inb_S3x256x1024_S1x256x1024_0_0_0 rfl
  have s1 := slotEq 1 _ inb_S3x256x1024_S1x256x1024_1_0_0 rfl
  have s2 := slotEq 2 _ inb_S3x256x1024_S1x256x1024_2_0_0 rfl
  unfold redV k0_pay2
  refine (congrFun (shapeCast_self _ _) _).trans ?_
  exact congrArg₂ (fun a b : EReal => a + b) (congrArg₂ (fun a b : EReal => a + b) (congrArg₂ (fun a b : EReal => a + b) own s0) s1) s2

/-- A received element is the sender's element of the same row. -/
theorem slotAt_eq (c : Dev nD) (j : Fin 3) (k : Fin 256) (col : Fin 1024) :
    slotAt m c j k col = quarterAt m (zm c (j.val + 1)) ⟨256 * (c.val % 4) + k.val, by omega⟩ col := by
  unfold slotAt rsV xbV k0_pay1
  exact congrFun (shapeCast_self _ _) _

/-- When every device holds its slab of `A`, an element of the quarter a device copies in is an element of that slab. -/
theorem quarterAt_eq {A : Cert.ReferenceIdeal.S16384x1024.Idx → EReal}
    (hA : ∀ c : Dev nD, X m c = Layout.blockN ⟨2, ![4096, 1024]⟩ ⟨2, ![16384, 1024]⟩ (Layout.meshBlock [2, 2, 4] ![[2], []] c) A)
    (c d : Dev nD) (hd : d.val / 4 = c.val / 4) (k : Fin 256) (col : Fin 1024) (row : Fin 4096) (hr : row.val = 256 * c.val + k.val) :
    quarterAt m d ⟨256 * (c.val % 4) + k.val, by omega⟩ col = slab A ⟨d.val % 4, Nat.mod_lt _ (by decide)⟩ row col := by
  unfold quarterAt xqV slab
  rw [hA d]
  have hz : ∀ d : Dev nD, Layout.meshLin [2, 2, 4] d.val [2] = d.val % 4 := by decide
  refine congrArg A (funext fun a => Fin.ext ?_)
  fin_cases a
  · show Layout.meshLin [2, 2, 4] d.val [2] * 4096 + (1024 * (d.val / 4) + (256 * (c.val % 4) + k.val)) = 4096 * (d.val % 4) + row.val
    rw [hz d]; omega
  · show 0 * 1024 + col.val = col.val
    omega

/-- A device's own slab and those of the three devices below it in its column are the four slabs, each once. -/
theorem column_sum (f : Fin 4 → EReal) : ∀ c : Dev nD,
    f ⟨c.val % 4, Nat.mod_lt _ (by decide)⟩ + f ⟨(zm c 1).val % 4, Nat.mod_lt _ (by decide)⟩
      + f ⟨(zm c 2).val % 4, Nat.mod_lt _ (by decide)⟩ + f ⟨(zm c 3).val % 4, Nat.mod_lt _ (by decide)⟩ = ∑ z : Fin 4, f z := by
  intro c
  have h1 : (zm c 1).val % 4 = (c.val % 4 + 3) % 4 := by show (4 * (c.val / 4) + (c.val % 4 + 3 * 1) % 4) % 4 = _; omega
  have h2 : (zm c 2).val % 4 = (c.val % 4 + 2) % 4 := by show (4 * (c.val / 4) + (c.val % 4 + 3 * 2) % 4) % 4 = _; omega
  have h3 : (zm c 3).val % 4 = (c.val % 4 + 1) % 4 := by show (4 * (c.val / 4) + (c.val % 4 + 3 * 3) % 4) % 4 = _; omega
  have key : ∀ z : Fin 4, f z + f ⟨(z.val + 3) % 4, Nat.mod_lt _ (by decide)⟩ + f ⟨(z.val + 2) % 4, Nat.mod_lt _ (by decide)⟩
      + f ⟨(z.val + 1) % 4, Nat.mod_lt _ (by decide)⟩ = ∑ z : Fin 4, f z := by
    intro z
    rw [Fin.sum_univ_four]
    fin_cases z
    · show f 0 + f 3 + f 2 + f 1 = _; abel
    · show f 1 + f 0 + f 3 + f 2 = _; abel
    · show f 2 + f 1 + f 0 + f 3 = _; abel
    · show f 3 + f 2 + f 1 + f 0 = _; abel
  simp only [h1, h2, h3]
  exact key ⟨c.val % 4, Nat.mod_lt _ (by decide)⟩

/-- When every device holds its slab of `A`, row `row` of the block the row lies in is the sum of the four slabs' rows. -/
theorem block_value {A : Cert.ReferenceIdeal.S16384x1024.Idx → EReal}
    (hA : ∀ c : Dev nD, X m c = Layout.blockN ⟨2, ![4096, 1024]⟩ ⟨2, ![16384, 1024]⟩ (Layout.meshBlock [2, 2, 4] ![[2], []] c) A)
    (row : Fin 4096) (col : Fin 1024) (c : Dev nD) (hc : c.val = row.val / 256) :
    redV m c (ix2 (n0 := 256) (n1 := 1024) ⟨row.val % 256, Nat.mod_lt _ (by decide)⟩ col) = ∑ z : Fin 4, slab A z row col := by
  have hrow : row.val = 256 * c.val + row.val % 256 := by omega
  have column : ∀ n : ℕ, (zm c n).val / 4 = c.val / 4 := by
    intro n; show (4 * (c.val / 4) + (c.val % 4 + 3 * n) % 4) / 4 = _; omega
  have q := fun (d : Dev nD) (hd : d.val / 4 = c.val / 4) =>
    quarterAt_eq m hA c d hd ⟨row.val % 256, Nat.mod_lt _ (by decide)⟩ col row hrow
  rw [redV_apply, slotAt_eq, slotAt_eq, slotAt_eq, q c rfl, q _ (column _), q _ (column _), q _ (column _)]
  exact column_sum (fun z => slab A z row col) c

/-- When every device holds its slab of `A`, the result is the sum of the four slabs. -/
theorem outV_value {A : Cert.ReferenceIdeal.S16384x1024.Idx → EReal}
    (hA : ∀ c : Dev nD, X m c = Layout.blockN ⟨2, ![4096, 1024]⟩ ⟨2, ![16384, 1024]⟩ (Layout.meshBlock [2, 2, 4] ![[2], []] c) A) :
    outV m = slabSum A :=
  funext fun i => block_value m hA (i 0) (i 1) _ rfl

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.IdealValue
public import Idealize.ShloMosaic.Adequacy
public import Idealize.ShloMosaic.Init

@[expose] public section

noncomputable section

namespace Cert.Proof

open Idealize.ShloMosaic Idealize.SL.Sem Cert.Kernel

/-- The kernel as compiled runs to the end on the sixteen devices, keeps every argument and leaves every counter at zero. -/
theorem frame_kernel : Cert.quiescent_Kernel := fun m g _ =>
  (θ_run Cert.Kernel.defs _ _).mono (fun _ h => ⟨fun c => (h.1 c).2, h.2⟩) (Cert.Kernel.AllReduce.run_result (F := Bits) m g)

/-- So does the kernel over the extended reals. -/
theorem frame_ideal : Cert.quiescent_KernelIdeal := fun m g _ =>
  (θ_run Cert.KernelIdeal.defs _ _).mono (fun _ h => ⟨fun c => (h.1 c).2, h.2⟩) (Cert.KernelIdeal.AllReduce.run_result (F := Ideal) m g)

/-- So does the reference on its one device, which has no semaphore at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals, when each device holds its slab of the reference's argument, every device's result is the
    reference's: the sum of the four slabs. -/
theorem same_value : Cert.algebraic_KernelIdeal_ReferenceIdeal := fun m g m' g' _ hA =>
  ⟨Cert.KernelIdeal.AllReduce.slabSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (Cert.KernelIdeal.AllReduce.outV_value m hA), (h.1 c).2⟩)
      (Cert.KernelIdeal.AllReduce.run_result (F := Ideal) m g),
    (θ_run Cert.ReferenceIdeal.defs _ _).mono
      (fun _ h => ⟨(h 0).1.trans (Cert.KernelIdeal.AllReduce.reference_value _), (h 0).2⟩)
      (Cert.ReferenceIdeal.Value.run (F := Ideal) m' g')⟩

/-- The five claims, with the side conditions the three programs state. -/
theorem claim : Cert.Claim := ⟨Cert.Kernel.Gen.facts, Cert.KernelIdeal.Gen.facts, Cert.ReferenceIdeal.Gen.facts,
  frame_kernel, frame_ideal, frame_reference, trivial, same_value⟩

end Cert.Proof

end
